-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_the_mesh [hPre_the_mesh : Cert.Pre_the_mesh.Facts] (m : (ℓ : Loc Cert.KernelIdeal.nD Cert.KernelIdeal.τ Cert.KernelIdeal.sig) → Buf (Elt Ideal) ℓ) : Prop :=
  ∀ c : Dev Cert.KernelIdeal.nD,
    (Cert.Pre_the_mesh.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_the_mesh.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_the_mesh.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_the_mesh.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_the_mesh.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.1 = (fun _ => 1#1)
    ∧ (Cert.Pre_the_mesh.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.2.1 = (fun _ => 1#1)
    ∧ (Cert.Pre_the_mesh.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.2.2.1 = (fun _ => 1#1)
    ∧ (Cert.Pre_the_mesh.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.2.2.2.1 = (fun _ => 1#1)
    ∧ (Cert.Pre_the_mesh.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_the_mesh [hPre_the_mesh : Cert.Pre_the_mesh.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_the_mesh.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_the_mesh.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_the_mesh.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_the_mesh.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_the_mesh.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2.1 = (fun _ => 1#1)
    ∧ (Cert.Pre_the_mesh.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2.2.1 = (fun _ => 1#1)
    ∧ (Cert.Pre_the_mesh.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2.2.2.1 = (fun _ => 1#1)
    ∧ (Cert.Pre_the_mesh.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2.2.2.2.1 = (fun _ => 1#1)
    ∧ (Cert.Pre_the_mesh.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_the_mesh [hKernelIdeal : Cert.KernelIdeal.Facts] [hPre_the_mesh : Cert.Pre_the_mesh.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_the_mesh m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_the_mesh [hReferenceIdeal : Cert.ReferenceIdeal.Facts] [hPre_the_mesh : Cert.Pre_the_mesh.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_the_mesh m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "cell_area" .f32 0x37A8DE3D#32 ((2 / 99351 : ℝ) : EReal)

def algebraic_KernelIdeal_ReferenceIdeal_pre_the_mesh [hKernelIdeal : Cert.KernelIdeal.Facts] [hReferenceIdeal : Cert.ReferenceIdeal.Facts] [hPre_the_mesh : Cert.Pre_the_mesh.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_the_mesh m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v206) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_the_mesh : Cert.Pre_the_mesh.Facts),
    quiescent_Kernel (hKernel := hKernel)
    ∧ quiescent_KernelIdeal (hKernelIdeal := hKernelIdeal)
    ∧ quiescent_KernelIdeal_pre_the_mesh (hKernelIdeal := hKernelIdeal) (hPre_the_mesh := hPre_the_mesh)
    ∧ quiescent_ReferenceIdeal (hReferenceIdeal := hReferenceIdeal)
    ∧ quiescent_ReferenceIdeal_pre_the_mesh (hReferenceIdeal := hReferenceIdeal) (hPre_the_mesh := hPre_the_mesh)
    ∧ preserves_Kernel_KernelIdeal
    ∧ algebraic_KernelIdeal_ReferenceIdeal_pre_the_mesh (hKernelIdeal := hKernelIdeal) (hReferenceIdeal := hReferenceIdeal) (hPre_the_mesh := hPre_the_mesh)
-- ==== Pre_the_mesh.lean ====
abbrev S199500 : Shape := ⟨1, ![199500]⟩
abbrev S1 : Shape := ⟨1, ![1]⟩
abbrev S100000x2 : Shape := ⟨2, ![100000, 2]⟩
abbrev S198702x3 : Shape := ⟨2, ![198702, 3]⟩
abbrev S250 : Shape := ⟨1, ![250]⟩
abbrev S250x400 : Shape := ⟨2, ![250, 400]⟩
abbrev S250x400x2 : Shape := ⟨3, ![250, 400, 2]⟩
abbrev S250x400x1 : Shape := ⟨3, ![250, 400, 1]⟩
abbrev S_ : Shape := ⟨0, ![]⟩
abbrev S249x399 : Shape := ⟨2, ![249, 399]⟩
abbrev S2x249x399x3 : Shape := ⟨4, ![2, 249, 399, 3]⟩
abbrev S1x249x399x1 : Shape := ⟨4, ![1, 249, 399, 1]⟩

class Facts : Prop where
  shapeCasts_S100000x2_S250x400x2 : S100000x2.ShapeCasts S250x400x2
  slices_S250x400x2_S250x400x1_0_0_0 : S250x400x2.Slices ![0, 0, 0] S250x400x1
  shapeCasts_S250x400x1_S250x400 : S250x400x1.ShapeCasts S250x400
  bcast_S_S250x400 : S_.BroadcastsInDim S250x400 (![] : Fin 0 → Fin S250x400.rank)
  slices_S250x400x2_S250x400x1_0_0_1 : S250x400x2.Slices ![0, 0, 1] S250x400x1
  bcast_S_S249x399 : S_.BroadcastsInDim S249x399 (![] : Fin 0 → Fin S249x399.rank)
  shapeCasts_S198702x3_S2x249x399x3 : S198702x3.ShapeCasts S2x249x399x3
  slices_S2x249x399x3_S1x249x399x1_0_0_0_0 : S2x249x399x3.Slices ![0, 0, 0, 0] S1x249x399x1
  shapeCasts_S1x249x399x1_S249x399 : S1x249x399x1.ShapeCasts S249x399
  slices_S2x249x399x3_S1x249x399x1_0_0_0_1 : S2x249x399x3.Slices ![0, 0, 0, 1] S1x249x399x1
  slices_S2x249x399x3_S1x249x399x1_0_0_0_2 : S2x249x399x3.Slices ![0, 0, 0, 2] S1x249x399x1
  slices_S2x249x399x3_S1x249x399x1_1_0_0_0 : S2x249x399x3.Slices ![1, 0, 0, 0] S1x249x399x1
  slices_S2x249x399x3_S1x249x399x1_1_0_0_1 : S2x249x399x3.Slices ![1, 0, 0, 1] S1x249x399x1
  slices_S2x249x399x3_S1x249x399x1_1_0_0_2 : S2x249x399x3.Slices ![1, 0, 0, 2] S1x249x399x1
  bcast_S_S250 : S_.BroadcastsInDim S250 (![] : Fin 0 → Fin S250.rank)

variable [Facts]

def fn_part2 {F : FTy → Type} [FloatOps F] (main_arg4 : IVec S250 32) (main_v12 : IVec S250x400 1) (main_v20 : IVec S250x400 1) (main_v25 : IVec S249x399 32) (main_v26 : IVec S2x249x399x3 32) (main_v29 : IVec S249x399 1) (main_v34 : IVec S249x399 1) (main_v39 : IVec S249x399 1) (main_v41 : IVec S249x399 32) : IVec S250x400 1 × IVec S250x400 1 × IVec S249x399 1 × IVec S249x399 1 × IVec S249x399 1 × IVec S249x399 1 × IVec S249x399 1 × IVec S249x399 1 × IVec S250 1 :=
  let main_v42 : IVec S249x399 1 := cmpi .eq main_v41 main_v25
  let main_v43 : IVec S1x249x399x1 32 := (extractStridedSlice S1x249x399x1 ![1, 0, 0, 1] · slices_S2x249x399x3_S1x249x399x1_1_0_0_1) main_v26
  let main_v44 : IVec S249x399 32 := shapeCast S249x399 main_v43 shapeCasts_S1x249x399x1_S249x399
  let main_c_5 : IVec S_ 32 := constantI S_ 32 401#32
  let main_v45 : IVec S249x399 32 := broadcastInDim S249x399 ![] bcast_S_S249x399 main_c_5
  let main_v46 : IVec S249x399 32 := addi main_v25 main_v45
  let main_v47 : IVec S249x399 1 := cmpi .eq main_v44 main_v46
  let main_v48 : IVec S1x249x399x1 32 := (extractStridedSlice S1x249x399x1 ![1, 0, 0, 2] · slices_S2x249x399x3_S1x249x399x1_1_0_0_2) main_v26
  let main_v49 : IVec S249x399 32 := shapeCast S249x399 main_v48 shapeCasts_S1x249x399x1_S249x399
  let main_c_6 : IVec S_ 32 := constantI S_ 32 400#32
  let main_v50 : IVec S249x399 32 := broadcastInDim S249x399 ![] bcast_S_S249x399 main_c_6
  let main_v51 : IVec S249x399 32 := addi main_v25 main_v50
  let main_v52 : IVec S249x399 1 := cmpi .eq main_v49 main_v51
  let main_v53 : IVec S250 32 := iotaInDim S250 32 0
  let main_c_7 : IVec S_ 32 := constantI S_ 32 400#32
  let main_v54 : IVec S250 32 := broadcastInDim S250 ![] bcast_S_S250 main_c_7
  let main_v55 : IVec S250 32 := muli main_v53 main_v54
  let main_v56 : IVec S250 1 := cmpi .eq main_arg4 main_v55
  (main_v12, main_v20, main_v29, main_v34, main_v39, main_v42, main_v47, main_v52, main_v56)

def fn_part1 {F : FTy → Type} [FloatOps F] (main_arg3 : IVec S198702x3 32) (main_arg4 : IVec S250 32) (main_v12 : IVec S250x400 1) (main_v20 : IVec S250x400 1) : IVec S250x400 1 × IVec S250x400 1 × IVec S249x399 1 × IVec S249x399 1 × IVec S249x399 1 × IVec S249x399 1 × IVec S249x399 1 × IVec S249x399 1 × IVec S250 1 :=
  let main_v21 : IVec S249x399 32 := iotaInDim S249x399 32 0
  let main_c_2 : IVec S_ 32 := constantI S_ 32 400#32
  let main_v22 : IVec S249x399 32 := broadcastInDim S249x399 ![] bcast_S_S249x399 main_c_2
  let main_v23 : IVec S249x399 32 := muli main_v21 main_v22
  let main_v24 : IVec S249x399 32 := iotaInDim S249x399 32 1
  let main_v25 : IVec S249x399 32 := addi main_v23 main_v24
  let main_v26 : IVec S2x249x399x3 32 := shapeCast S2x249x399x3 main_arg3 shapeCasts_S198702x3_S2x249x399x3
  let main_v27 : IVec S1x249x399x1 32 := (extractStridedSlice S1x249x399x1 ![0, 0, 0, 0] · slices_S2x249x399x3_S1x249x399x1_0_0_0_0) main_v26
  let main_v28 : IVec S249x399 32 := shapeCast S249x399 main_v27 shapeCasts_S1x249x399x1_S249x399
  let main_v29 : IVec S249x399 1 := cmpi .eq main_v28 main_v25
  let main_v30 : IVec S1x249x399x1 32 := (extractStridedSlice S1x249x399x1 ![0, 0, 0, 1] · slices_S2x249x399x3_S1x249x399x1_0_0_0_1) main_v26
  let main_v31 : IVec S249x399 32 := shapeCast S249x399 main_v30 shapeCasts_S1x249x399x1_S249x399
  let main_c_3 : IVec S_ 32 := constantI S_ 32 1#32
  let main_v32 : IVec S249x399 32 := broadcastInDim S249x399 ![] bcast_S_S249x399 main_c_3
  let main_v33 : IVec S249x399 32 := addi main_v25 main_v32
  let main_v34 : IVec S249x399 1 := cmpi .eq main_v31 main_v33
  let main_v35 : IVec S1x249x399x1 32 := (extractStridedSlice S1x249x399x1 ![0, 0, 0, 2] · slices_S2x249x399x3_S1x249x399x1_0_0_0_2) main_v26
  let main_v36 : IVec S249x399 32 := shapeCast S249x399 main_v35 shapeCasts_S1x249x399x1_S249x399
  let main_c_4 : IVec S_ 32 := constantI S_ 32 401#32
  let main_v37 : IVec S249x399 32 := broadcastInDim S249x399 ![] bcast_S_S249x399 main_c_4
  let main_v38 : IVec S249x399 32 := addi main_v25 main_v37
  let main_v39 : IVec S249x399 1 := cmpi .eq main_v36 main_v38
  let main_v40 : IVec S1x249x399x1 32 := (extractStridedSlice S1x249x399x1 ![1, 0, 0, 0] · slices_S2x249x399x3_S1x249x399x1_1_0_0_0) main_v26
  let main_v41 : IVec S249x399 32 := shapeCast S249x399 main_v40 shapeCasts_S1x249x399x1_S249x399
  fn_part2 (F := F) main_arg4 main_v12 main_v20 main_v25 main_v26 main_v29 main_v34 main_v39 main_v41

def fn {F : FTy → Type} [FloatOps F] (main_arg0 : FVec F S199500 .f32) (main_arg1 : FVec F S1 .f32) (main_arg2 : FVec F S100000x2 .f32) (main_arg3 : IVec S198702x3 32) (main_arg4 : IVec S250 32) : IVec S250x400 1 × IVec S250x400 1 × IVec S249x399 1 × IVec S249x399 1 × IVec S249x399 1 × IVec S249x399 1 × IVec S249x399 1 × IVec S249x399 1 × IVec S250 1 :=
  let main_v0 : IVec S250x400 32 := iotaInDim S250x400 32 1
  let main_v1 : IVec S250x400 32 := iotaInDim S250x400 32 0
  let main_v2 : FVec F S250x400x2 .f32 := shapeCast S250x400x2 main_arg2 shapeCasts_S100000x2_S250x400x2
  let main_v3 : FVec F S250x400x1 .f32 := (extractStridedSlice S250x400x1 ![0, 0, 0] · slices_S250x400x2_S250x400x1_0_0_0) main_v2
  let main_v4 : FVec F S250x400 .f32 := shapeCast S250x400 main_v3 shapeCasts_S250x400x1_S250x400
  let main_c : IVec S_ 32 := constantI S_ 32 4#32
  let main_v5 : IVec S250x400 32 := broadcastInDim S250x400 ![] bcast_S_S250x400 main_c
  let main_v6 : IVec S250x400 32 := muli main_v5 main_v0
  let main_v7 : FVec F S250x400 .f32 := sitofp .f32 main_v6
  let main_c_0 : IVec S_ 32 := constantI S_ 32 399#32
  let main_v8 : IVec S250x400 32 := broadcastInDim S250x400 ![] bcast_S_S250x400 main_c_0
  let main_v9 : IVec S250x400 32 := maxsi main_v0 main_v8
  let main_v10 : FVec F S250x400 .f32 := sitofp .f32 main_v9
  let main_v11 : FVec F S250x400 .f32 := Host.divf main_v7 main_v10
  let main_v12 : IVec S250x400 1 := cmpf .oeq main_v4 main_v11
  let main_v13 : FVec F S250x400x1 .f32 := (extractStridedSlice S250x400x1 ![0, 0, 1] · slices_S250x400x2_S250x400x1_0_0_1) main_v2
  let main_v14 : FVec F S250x400 .f32 := shapeCast S250x400 main_v13 shapeCasts_S250x400x1_S250x400
  let main_v15 : FVec F S250x400 .f32 := sitofp .f32 main_v1
  let main_c_1 : IVec S_ 32 := constantI S_ 32 249#32
  let main_v16 : IVec S250x400 32 := broadcastInDim S250x400 ![] bcast_S_S250x400 main_c_1
  let main_v17 : IVec S250x400 32 := maxsi main_v1 main_v16
  let main_v18 : FVec F S250x400 .f32 := sitofp .f32 main_v17
  let main_v19 : FVec F S250x400 .f32 := Host.divf main_v15 main_v18
  let main_v20 : IVec S250x400 1 := cmpf .oeq main_v14 main_v19
  fn_part1 (F := F) main_arg3 main_arg4 main_v12 main_v20
-- ==== Kernel.lean ====
abbrev S199500 : Shape := ⟨1, ![199500]⟩
abbrev S1 : Shape := ⟨1, ![1]⟩
abbrev S100000x2 : Shape := ⟨2, ![100000, 2]⟩
abbrev S198702x3 : Shape := ⟨2, ![198702, 3]⟩
abbrev S250 : Shape := ⟨1, ![250]⟩
abbrev S250x798 : Shape := ⟨2, ![250, 798]⟩
abbrev S1x1 : Shape := ⟨2, ![1, 1]⟩
abbrev S250x1 : Shape := ⟨2, ![250, 1]⟩
abbrev S250x2 : Shape := ⟨2, ![250, 2]⟩
abbrev S250x802 : Shape := ⟨2, ![250, 802]⟩
abbrev S249x800 : Shape := ⟨2, ![249, 800]⟩
abbrev S249x798 : Shape := ⟨2, ![249, 798]⟩
abbrev S1x249x798 : Shape := ⟨3, ![1, 249, 798]⟩
abbrev S1x1x1 : Shape := ⟨3, ![1, 1, 1]⟩
abbrev S_ : Shape := ⟨0, ![]⟩

abbrev nBuf : Space → Nat
  | .hbm => 8
  | .vmem => 2
  | .smem => 1
  | _ => 0

abbrev bufTy : (tb : Table) → Fin (tcTables nBuf tb) → BufTy
  | .hbm, ⟨0, _⟩ => ⟨S199500, .f32⟩
  | .hbm, ⟨1, _⟩ => ⟨S1, .f32⟩
  | .hbm, ⟨2, _⟩ => ⟨S100000x2, .f32⟩
  | .hbm, ⟨3, _⟩ => ⟨S198702x3, .i32⟩
  | .hbm, ⟨4, _⟩ => ⟨S250, .i32⟩
  | .hbm, ⟨5, _⟩ => ⟨S250x798, .f32⟩
  | .hbm, ⟨6, _⟩ => ⟨S1x1, .f32⟩
  | .hbm, ⟨7, _⟩ => ⟨S_, .f32⟩
  | .local _ .vmem, ⟨0, _⟩ => ⟨S250x798, .f32⟩
  | .local _ .vmem, ⟨1, _⟩ => ⟨S1x1, .f32⟩
  | .local _ .smem, ⟨0, _⟩ => ⟨S1, .f32⟩
  | _, _ => ⟨S199500, .f32⟩

abbrev bufScoped : (cs : CoreSpace) → Fin (nBuf (.core cs)) → Bool
  | .vmem, ⟨0, _⟩ => true
  | .vmem, ⟨1, _⟩ => true
  | .smem, ⟨0, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg1_0 : Ref sig .tc := ⟨.vmem, 0, rfl⟩
abbrev cc0_stg2_0 : Ref sig .tc := ⟨.vmem, 1, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S250x798 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== KernelIdeal.lean ====
variable {F : FTy → Type} [FloatOps F] [Named F]
def κ : String → Option EReal := fun
  | "cell_area" => some ((2 / 99351 : ℝ) : EReal)
  | _ => none
-- ==== ReferenceIdeal.lean ====
abbrev S199500 : Shape := ⟨1, ![199500]⟩
abbrev S1 : Shape := ⟨1, ![1]⟩
abbrev S100000x2 : Shape := ⟨2, ![100000, 2]⟩
abbrev S198702x3 : Shape := ⟨2, ![198702, 3]⟩
abbrev S250 : Shape := ⟨1, ![250]⟩
abbrev S_ : Shape := ⟨0, ![]⟩
abbrev S250x1 : Shape := ⟨2, ![250, 1]⟩
abbrev S250x2 : Shape := ⟨2, ![250, 2]⟩
abbrev S200000 : Shape := ⟨1, ![200000]⟩
abbrev S500 : Shape := ⟨1, ![500]⟩
abbrev S200000x1 : Shape := ⟨2, ![200000, 1]⟩
abbrev S500x1 : Shape := ⟨2, ![500, 1]⟩
abbrev S199500x1 : Shape := ⟨2, ![199500, 1]⟩
abbrev S198702x3x1 : Shape := ⟨3, ![198702, 3, 1]⟩
abbrev S198702x3x2 : Shape := ⟨3, ![198702, 3, 2]⟩
abbrev S198702x1x2 : Shape := ⟨3, ![198702, 1, 2]⟩
abbrev S198702x2 : Shape := ⟨2, ![198702, 2]⟩
abbrev S198702x1 : Shape := ⟨2, ![198702, 1]⟩
abbrev S198702 : Shape := ⟨1, ![198702]⟩
abbrev S198702x1x1 : Shape := ⟨3, ![198702, 1, 1]⟩
abbrev S198702x2x2 : Shape := ⟨3, ![198702, 2, 2]⟩

abbrev nBuf : Space → Nat
  | .hbm => 346
  | .vmem => 0
  | .smem => 0
  | _ => 0

abbrev hbmTy0_0 (i : Nat) : BufTy := match i % 128 with
  | 0 => ⟨S199500, .f32⟩
  | 1 => ⟨S1, .f32⟩
  | 2 => ⟨S100000x2, .f32⟩
  | 3 => ⟨S198702x3, .i32⟩
  | 4 => ⟨S250, .i32⟩
  | 5 => ⟨S_, .i1⟩
  | 6 => ⟨S100000x2, .i1⟩
  | 7 => ⟨S_, .i32⟩
  | 8 => ⟨S250, .i32⟩
  | 9 => ⟨S250, .i1⟩
  | 10 => ⟨S_, .i32⟩
  | 11 => ⟨S250, .i32⟩
  | 12 => ⟨S250, .i32⟩
  | 13 => ⟨S250, .i32⟩
  | 14 => ⟨S250x1, .i32⟩
  | 15 => ⟨S_, .i1⟩
  | 16 => ⟨S250x2, .i1⟩
  | 17 => ⟨S100000x2, .i1⟩
  | 18 => ⟨S200000, .i1⟩
  | 19 => ⟨S200000, .i32⟩
  | 20 => ⟨S_, .i32⟩
  | 21 => ⟨S_, .i32⟩
  | 22 => ⟨S200000, .i32⟩
  | 23 => ⟨S_, .i32⟩
  | 24 => ⟨S500, .i32⟩
  | 25 => ⟨S_, .i32⟩
  | 26 => ⟨S200000, .i32⟩
  | 27 => ⟨S200000, .i1⟩
  | 28 => ⟨S_, .i32⟩
  | 29 => ⟨S200000, .i32⟩
  | 30 => ⟨S200000, .i32⟩
  | 31 => ⟨S200000, .i32⟩
  | 32 => ⟨S200000x1, .i32⟩
  | 33 => ⟨S_, .i32⟩
  | 34 => ⟨S200000, .i32⟩
  | 35 => ⟨S500, .i32⟩
  | 36 => ⟨S_, .i32⟩
  | 37 => ⟨S_, .i32⟩
  | 38 => ⟨S500, .i32⟩
  | 39 => ⟨S_, .i32⟩
  | 40 => ⟨S_, .i32⟩
  | 41 => ⟨S500, .i32⟩
  | 42 => ⟨S500, .i32⟩
  | 43 => ⟨S500, .i32⟩
  | 44 => ⟨S_, .i32⟩
  | 45 => ⟨S500, .i32⟩
  | 46 => ⟨S500, .i1⟩
  | 47 => ⟨S500, .i32⟩
  | 48 => ⟨S500, .i32⟩
  | 49 => ⟨S_, .i32⟩
  | 50 => ⟨S500, .i32⟩
  | 51 => ⟨S500, .i1⟩
  | 52 => ⟨S500, .i1⟩
  | 53 => ⟨S_, .i32⟩
  | 54 => ⟨S500, .i32⟩
  | 55 => ⟨S500, .i32⟩
  | 56 => ⟨S500, .i32⟩
  | 57 => ⟨S_, .i32⟩
  | 58 => ⟨S_, .i32⟩
  | 59 => ⟨S_, .i32⟩
  | 60 => ⟨S_, .i1⟩
  | 61 => ⟨S_, .i32⟩
  | 62 => ⟨S_, .i32⟩
  | 63 => ⟨S500, .i32⟩
  | 64 => ⟨S500, .i32⟩
  | 65 => ⟨S_, .i32⟩
  | 66 => ⟨S500, .i32⟩
  | 67 => ⟨S500, .i1⟩
  | 68 => ⟨S_, .i32⟩
  | 69 => ⟨S500, .i32⟩
  | 70 => ⟨S500, .i1⟩
  | 71 => ⟨S_, .i32⟩
  | 72 => ⟨S_, .i1⟩
  | 73 => ⟨S500, .i1⟩
  | 74 => ⟨S500, .i1⟩
  | 75 => ⟨S500, .i1⟩
  | 76 => ⟨S500, .i32⟩
  | 77 => ⟨S500, .i32⟩
  | 78 => ⟨S500, .i32⟩
  | 79 => ⟨S200000, .i32⟩
  | 80 => ⟨S_, .i32⟩
  | 81 => ⟨S_, .i32⟩
  | 82 => ⟨S1, .i32⟩
  | 83 => ⟨S500, .i32⟩
  | 84 => ⟨S500, .i32⟩
  | 85 => ⟨S500, .i1⟩
  | 86 => ⟨S_, .i32⟩
  | 87 => ⟨S_, .i32⟩
  | 88 => ⟨S500, .i32⟩
  | 89 => ⟨S500, .i32⟩
  | 90 => ⟨S200000, .i1⟩
  | 91 => ⟨S200000, .i32⟩
  | 92 => ⟨S_, .i32⟩
  | 93 => ⟨S_, .i32⟩
  | 94 => ⟨S200000, .i32⟩
  | 95 => ⟨S_, .i32⟩
  | 96 => ⟨S199500, .i32⟩
  | 97 => ⟨S_, .i32⟩
  | 98 => ⟨S200000, .i32⟩
  | 99 => ⟨S200000, .i1⟩
  | 100 => ⟨S_, .i32⟩
  | 101 => ⟨S200000, .i32⟩
  | 102 => ⟨S200000, .i32⟩
  | 103 => ⟨S200000, .i32⟩
  | 104 => ⟨S200000x1, .i32⟩
  | 105 => ⟨S_, .i32⟩
  | 106 => ⟨S200000, .i32⟩
  | 107 => ⟨S199500, .i32⟩
  | 108 => ⟨S_, .i32⟩
  | 109 => ⟨S_, .i32⟩
  | 110 => ⟨S199500, .i32⟩
  | 111 => ⟨S_, .i32⟩
  | 112 => ⟨S_, .i32⟩
  | 113 => ⟨S199500, .i32⟩
  | 114 => ⟨S199500, .i32⟩
  | 115 => ⟨S199500, .i32⟩
  | 116 => ⟨S_, .i32⟩
  | 117 => ⟨S199500, .i32⟩
  | 118 => ⟨S199500, .i1⟩
  | 119 => ⟨S199500, .i32⟩
  | 120 => ⟨S199500, .i32⟩
  | 121 => ⟨S_, .i32⟩
  | 122 => ⟨S199500, .i32⟩
  | 123 => ⟨S199500, .i1⟩
  | 124 => ⟨S199500, .i1⟩
  | 125 => ⟨S_, .i32⟩
  | 126 => ⟨S199500, .i32⟩
  | 127 => ⟨S199500, .i32⟩
  | _ => ⟨S199500, .f32⟩

abbrev hbmTy0_1 (i : Nat) : BufTy := match i % 128 with
  | 0 => ⟨S199500, .i32⟩
  | 1 => ⟨S_, .i32⟩
  | 2 => ⟨S_, .i32⟩
  | 3 => ⟨S_, .i32⟩
  | 4 => ⟨S_, .i1⟩
  | 5 => ⟨S_, .i32⟩
  | 6 => ⟨S_, .i32⟩
  | 7 => ⟨S199500, .i32⟩
  | 8 => ⟨S199500, .i32⟩
  | 9 => ⟨S_, .i32⟩
  | 10 => ⟨S199500, .i32⟩
  | 11 => ⟨S199500, .i1⟩
  | 12 => ⟨S_, .i32⟩
  | 13 => ⟨S199500, .i32⟩
  | 14 => ⟨S199500, .i1⟩
  | 15 => ⟨S_, .i32⟩
  | 16 => ⟨S_, .i1⟩
  | 17 => ⟨S199500, .i1⟩
  | 18 => ⟨S199500, .i1⟩
  | 19 => ⟨S199500, .i1⟩
  | 20 => ⟨S199500, .i32⟩
  | 21 => ⟨S199500, .i32⟩
  | 22 => ⟨S199500, .i32⟩
  | 23 => ⟨S200000, .i32⟩
  | 24 => ⟨S_, .i32⟩
  | 25 => ⟨S_, .i32⟩
  | 26 => ⟨S1, .i32⟩
  | 27 => ⟨S199500, .i32⟩
  | 28 => ⟨S199500, .i32⟩
  | 29 => ⟨S199500, .i1⟩
  | 30 => ⟨S_, .i32⟩
  | 31 => ⟨S_, .i32⟩
  | 32 => ⟨S199500, .i32⟩
  | 33 => ⟨S199500, .i32⟩
  | 34 => ⟨S_, .f32⟩
  | 35 => ⟨S_, .f32⟩
  | 36 => ⟨S_, .f32⟩
  | 37 => ⟨S_, .f32⟩
  | 38 => ⟨S100000x2, .f32⟩
  | 39 => ⟨S_, .i32⟩
  | 40 => ⟨S250, .i32⟩
  | 41 => ⟨S250, .i1⟩
  | 42 => ⟨S_, .i32⟩
  | 43 => ⟨S250, .i32⟩
  | 44 => ⟨S250, .i32⟩
  | 45 => ⟨S250, .i32⟩
  | 46 => ⟨S_, .i32⟩
  | 47 => ⟨S250, .i32⟩
  | 48 => ⟨S250, .i32⟩
  | 49 => ⟨S250x1, .i32⟩
  | 50 => ⟨S250x1, .i32⟩
  | 51 => ⟨S250x2, .i32⟩
  | 52 => ⟨S250, .f32⟩
  | 53 => ⟨S100000x2, .f32⟩
  | 54 => ⟨S_, .i32⟩
  | 55 => ⟨S250, .i32⟩
  | 56 => ⟨S250, .i1⟩
  | 57 => ⟨S_, .i32⟩
  | 58 => ⟨S250, .i32⟩
  | 59 => ⟨S250, .i32⟩
  | 60 => ⟨S250, .i32⟩
  | 61 => ⟨S_, .i32⟩
  | 62 => ⟨S250, .i32⟩
  | 63 => ⟨S250, .i32⟩
  | 64 => ⟨S250x1, .i32⟩
  | 65 => ⟨S250x1, .i32⟩
  | 66 => ⟨S250x2, .i32⟩
  | 67 => ⟨S_, .f32⟩
  | 68 => ⟨S250, .f32⟩
  | 69 => ⟨S100000x2, .f32⟩
  | 70 => ⟨S200000, .f32⟩
  | 71 => ⟨S_, .i32⟩
  | 72 => ⟨S500, .i32⟩
  | 73 => ⟨S500, .i1⟩
  | 74 => ⟨S_, .i32⟩
  | 75 => ⟨S500, .i32⟩
  | 76 => ⟨S500, .i32⟩
  | 77 => ⟨S500, .i32⟩
  | 78 => ⟨S500x1, .i32⟩
  | 79 => ⟨S500, .f32⟩
  | 80 => ⟨S_, .f32⟩
  | 81 => ⟨S200000, .f32⟩
  | 82 => ⟨S_, .i32⟩
  | 83 => ⟨S199500, .i32⟩
  | 84 => ⟨S199500, .i1⟩
  | 85 => ⟨S_, .i32⟩
  | 86 => ⟨S199500, .i32⟩
  | 87 => ⟨S199500, .i32⟩
  | 88 => ⟨S199500, .i32⟩
  | 89 => ⟨S199500x1, .i32⟩
  | 90 => ⟨S200000, .f32⟩
  | 91 => ⟨S_, .i32⟩
  | 92 => ⟨S500, .i32⟩
  | 93 => ⟨S500, .i1⟩
  | 94 => ⟨S_, .i32⟩
  | 95 => ⟨S500, .i32⟩
  | 96 => ⟨S500, .i32⟩
  | 97 => ⟨S500, .i32⟩
  | 98 => ⟨S500x1, .i32⟩
  | 99 => ⟨S200000, .f32⟩
  | 100 => ⟨S100000x2, .f32⟩
  | 101 => ⟨S_, .i32⟩
  | 102 => ⟨S198702x3, .i32⟩
  | 103 => ⟨S198702x3, .i1⟩
  | 104 => ⟨S_, .i32⟩
  | 105 => ⟨S198702x3, .i32⟩
  | 106 => ⟨S198702x3, .i32⟩
  | 107 => ⟨S198702x3, .i32⟩
  | 108 => ⟨S198702x3x1, .i32⟩
  | 109 => ⟨S198702x3x2, .f32⟩
  | 110 => ⟨S_, .i32⟩
  | 111 => ⟨S198702x3, .i32⟩
  | 112 => ⟨S198702x3, .i1⟩
  | 113 => ⟨S_, .i32⟩
  | 114 => ⟨S198702x3, .i32⟩
  | 115 => ⟨S198702x3, .i32⟩
  | 116 => ⟨S198702x3, .i32⟩
  | 117 => ⟨S198702x3x1, .i32⟩
  | 118 => ⟨S198702x3x2, .f32⟩
  | 119 => ⟨S198702x1x2, .f32⟩
  | 120 => ⟨S198702x2, .f32⟩
  | 121 => ⟨S198702x1x2, .f32⟩
  | 122 => ⟨S198702x2, .f32⟩
  | 123 => ⟨S198702x1x2, .f32⟩
  | 124 => ⟨S198702x2, .f32⟩
  | 125 => ⟨S198702x2, .f32⟩
  | 126 => ⟨S198702x2, .f32⟩
  | 127 => ⟨S198702x1, .f32⟩
  | _ => ⟨S199500, .f32⟩

abbrev hbmTy0_2 (i : Nat) : BufTy := match i % 128 with
  | 0 => ⟨S198702, .f32⟩
  | 1 => ⟨S198702x1, .f32⟩
  | 2 => ⟨S198702, .f32⟩
  | 3 => ⟨S198702, .f32⟩
  | 4 => ⟨S198702x1, .f32⟩
  | 5 => ⟨S198702, .f32⟩
  | 6 => ⟨S198702x1, .f32⟩
  | 7 => ⟨S198702, .f32⟩
  | 8 => ⟨S198702, .f32⟩
  | 9 => ⟨S198702, .f32⟩
  | 10 => ⟨S_, .f32⟩
  | 11 => ⟨S198702, .f32⟩
  | 12 => ⟨S198702, .f32⟩
  | 13 => ⟨S198702x1, .f32⟩
  | 14 => ⟨S198702, .f32⟩
  | 15 => ⟨S198702x1, .f32⟩
  | 16 => ⟨S198702, .f32⟩
  | 17 => ⟨S198702, .f32⟩
  | 18 => ⟨S198702x1, .f32⟩
  | 19 => ⟨S198702, .f32⟩
  | 20 => ⟨S198702x1, .f32⟩
  | 21 => ⟨S198702, .f32⟩
  | 22 => ⟨S198702, .f32⟩
  | 23 => ⟨S198702x1, .f32⟩
  | 24 => ⟨S198702, .f32⟩
  | 25 => ⟨S198702x1, .f32⟩
  | 26 => ⟨S198702, .f32⟩
  | 27 => ⟨S198702, .f32⟩
  | 28 => ⟨S198702x1, .f32⟩
  | 29 => ⟨S198702, .f32⟩
  | 30 => ⟨S198702x1, .f32⟩
  | 31 => ⟨S198702, .f32⟩
  | 32 => ⟨S198702, .f32⟩
  | 33 => ⟨S198702x1, .f32⟩
  | 34 => ⟨S198702, .f32⟩
  | 35 => ⟨S198702x1, .f32⟩
  | 36 => ⟨S198702, .f32⟩
  | 37 => ⟨S198702, .f32⟩
  | 38 => ⟨S198702x1, .f32⟩
  | 39 => ⟨S198702, .f32⟩
  | 40 => ⟨S198702x1, .f32⟩
  | 41 => ⟨S198702, .f32⟩
  | 42 => ⟨S198702, .f32⟩
  | 43 => ⟨S_, .f32⟩
  | 44 => ⟨S198702, .f32⟩
  | 45 => ⟨S198702, .f32⟩
  | 46 => ⟨S_, .f32⟩
  | 47 => ⟨S198702, .f32⟩
  | 48 => ⟨S198702, .f32⟩
  | 49 => ⟨S198702x1, .f32⟩
  | 50 => ⟨S198702x1, .f32⟩
  | 51 => ⟨S198702x2, .f32⟩
  | 52 => ⟨S198702x1, .f32⟩
  | 53 => ⟨S198702x1, .f32⟩
  | 54 => ⟨S198702x2, .f32⟩
  | 55 => ⟨S198702x1, .f32⟩
  | 56 => ⟨S198702x1, .f32⟩
  | 57 => ⟨S198702x2, .f32⟩
  | 58 => ⟨S198702x1x2, .f32⟩
  | 59 => ⟨S198702x1x2, .f32⟩
  | 60 => ⟨S198702x1x2, .f32⟩
  | 61 => ⟨S198702x3x2, .f32⟩
  | 62 => ⟨S198702x1x1, .f32⟩
  | 63 => ⟨S198702x3x2, .f32⟩
  | 64 => ⟨S198702x3x2, .f32⟩
  | 65 => ⟨S198702x2x2, .f32⟩
  | 66 => ⟨S198702x2x2, .f32⟩
  | 67 => ⟨S198702x2x2, .f32⟩
  | 68 => ⟨S_, .f32⟩
  | 69 => ⟨S198702x2x2, .f32⟩
  | 70 => ⟨S198702x2x2, .f32⟩
  | 71 => ⟨S198702x1x1, .f32⟩
  | 72 => ⟨S198702, .f32⟩
  | 73 => ⟨S198702x1x1, .f32⟩
  | 74 => ⟨S198702, .f32⟩
  | 75 => ⟨S198702, .f32⟩
  | 76 => ⟨S_, .f32⟩
  | 77 => ⟨S198702, .f32⟩
  | 78 => ⟨S198702, .f32⟩
  | 79 => ⟨S198702, .f32⟩
  | 80 => ⟨S198702x2x2, .f32⟩
  | 81 => ⟨S_, .f32⟩
  | 82 => ⟨S198702, .f32⟩
  | 83 => ⟨S_, .f32⟩
  | 84 => ⟨S198702, .f32⟩
  | 85 => ⟨S198702, .f32⟩
  | 86 => ⟨S198702, .f32⟩
  | 87 => ⟨S198702, .f32⟩
  | 88 => ⟨S_, .f32⟩
  | 89 => ⟨S_, .f32⟩
  | _ => ⟨S199500, .f32⟩

abbrev hbmTy (i : Nat) : BufTy := match i / 128 with
  | 0 => hbmTy0_0 i
  | 1 => hbmTy0_1 i
  | 2 => hbmTy0_2 i
  | _ => ⟨S199500, .f32⟩

abbrev bufTy : (tb : Table) → Fin (tcTables nBuf tb) → BufTy
  | .hbm, ⟨i, _⟩ => hbmTy i
  | _, _ => ⟨S199500, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_c_0 : Ref sig .tc := ⟨.hbm, 7, rfl⟩
abbrev main_v1 : Ref sig .tc := ⟨.hbm, 8, rfl⟩
abbrev main_v2 : Ref sig .tc := ⟨.hbm, 9, rfl⟩
abbrev main_c_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_call0_v0 : Ref sig .tc := ⟨.hbm, 19, rfl⟩
abbrev main_call0_call0_c : Ref sig .tc := ⟨.hbm, 20, rfl⟩
abbrev main_call0_call0_v0 : Ref sig .tc := ⟨.hbm, 21, rfl⟩
abbrev main_v10 : Ref sig .tc := ⟨.hbm, 22, rfl⟩
abbrev main_c_3 : Ref sig .tc := ⟨.hbm, 23, rfl⟩
abbrev main_v11 : Ref sig .tc := ⟨.hbm, 24, rfl⟩
abbrev main_c_4 : Ref sig .tc := ⟨.hbm, 25, rfl⟩
abbrev main_v12 : Ref sig .tc := ⟨.hbm, 26, rfl⟩
abbrev main_v13 : Ref sig .tc := ⟨.hbm, 27, rfl⟩
abbrev main_c_5 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_6 : Ref sig .tc := ⟨.hbm, 33, rfl⟩
abbrev main_v18 : Ref sig .tc := ⟨.hbm, 34, rfl⟩
abbrev main_v19 : Ref sig .tc := ⟨.hbm, 35, rfl⟩
abbrev main_call1_call0_c : Ref sig .tc := ⟨.hbm, 36, rfl⟩
abbrev main_call1_call0_v0 : Ref sig .tc := ⟨.hbm, 37, rfl⟩
abbrev main_v20 : Ref sig .tc := ⟨.hbm, 38, rfl⟩
abbrev main_c_7 : Ref sig .tc := ⟨.hbm, 39, rfl⟩
abbrev main_call2_v0 : Ref sig .tc := ⟨.hbm, 40, rfl⟩
abbrev main_call2_v1 : Ref sig .tc := ⟨.hbm, 41, rfl⟩
abbrev main_call2_v2 : Ref sig .tc := ⟨.hbm, 42, rfl⟩
abbrev main_call2_v3 : Ref sig .tc := ⟨.hbm, 43, rfl⟩
abbrev main_call2_v4 : Ref sig .tc := ⟨.hbm, 44, rfl⟩
abbrev main_call2_v5 : Ref sig .tc := ⟨.hbm, 45, rfl⟩
abbrev main_call2_v6 : Ref sig .tc := ⟨.hbm, 46, rfl⟩
abbrev main_call2_v7 : Ref sig .tc := ⟨.hbm, 47, rfl⟩
abbrev main_call2_v8 : Ref sig .tc := ⟨.hbm, 48, rfl⟩
abbrev main_call2_c : Ref sig .tc := ⟨.hbm, 49, rfl⟩
abbrev main_call2_v9 : Ref sig .tc := ⟨.hbm, 50, rfl⟩
abbrev main_call2_v10 : Ref sig .tc := ⟨.hbm, 51, rfl⟩
abbrev main_call2_v11 : Ref sig .tc := ⟨.hbm, 52, rfl⟩
abbrev main_call2_c_0 : Ref sig .tc := ⟨.hbm, 53, rfl⟩
abbrev main_call2_v12 : Ref sig .tc := ⟨.hbm, 54, rfl⟩
abbrev main_call2_v13 : Ref sig .tc := ⟨.hbm, 55, rfl⟩
abbrev main_v21 : Ref sig .tc := ⟨.hbm, 56, rfl⟩
abbrev main_c_8 : Ref sig .tc := ⟨.hbm, 57, rfl⟩
abbrev main_call3_v0 : Ref sig .tc := ⟨.hbm, 58, rfl⟩
abbrev main_call3_c : Ref sig .tc := ⟨.hbm, 59, rfl⟩
abbrev main_call3_v1 : Ref sig .tc := ⟨.hbm, 60, rfl⟩
abbrev main_call3_c_0 : Ref sig .tc := ⟨.hbm, 61, rfl⟩
abbrev main_call3_v2 : Ref sig .tc := ⟨.hbm, 62, rfl⟩
abbrev main_call3_v3 : Ref sig .tc := ⟨.hbm, 63, rfl⟩
abbrev main_call3_v4 : Ref sig .tc := ⟨.hbm, 64, rfl⟩
abbrev main_call3_c_1 : Ref sig .tc := ⟨.hbm, 65, rfl⟩
abbrev main_call3_v5 : Ref sig .tc := ⟨.hbm, 66, rfl⟩
abbrev main_call3_v6 : Ref sig .tc := ⟨.hbm, 67, rfl⟩
abbrev main_call3_c_2 : Ref sig .tc := ⟨.hbm, 68, rfl⟩
abbrev main_call3_v7 : Ref sig .tc := ⟨.hbm, 69, rfl⟩
abbrev main_call3_v8 : Ref sig .tc := ⟨.hbm, 70, rfl⟩
abbrev main_call3_c_3 : Ref sig .tc := ⟨.hbm, 71, rfl⟩
abbrev main_call3_v9 : Ref sig .tc := ⟨.hbm, 72, rfl⟩
abbrev main_call3_v10 : Ref sig .tc := ⟨.hbm, 73, rfl⟩
abbrev main_call3_v11 : Ref sig .tc := ⟨.hbm, 74, rfl⟩
abbrev main_call3_v12 : Ref sig .tc := ⟨.hbm, 75, rfl⟩
abbrev main_call3_v13 : Ref sig .tc := ⟨.hbm, 76, rfl⟩
abbrev main_call3_v14 : Ref sig .tc := ⟨.hbm, 77, rfl⟩
abbrev main_v22 : Ref sig .tc := ⟨.hbm, 78, rfl⟩
abbrev main_v23 : Ref sig .tc := ⟨.hbm, 79, rfl⟩
abbrev main_c_9 : Ref sig .tc := ⟨.hbm, 80, rfl⟩
abbrev main_v24 : Ref sig .tc := ⟨.hbm, 81, rfl⟩
abbrev main_v25 : Ref sig .tc := ⟨.hbm, 82, rfl⟩
abbrev main_v26 : Ref sig .tc := ⟨.hbm, 83, rfl⟩
abbrev main_v27 : Ref sig .tc := ⟨.hbm, 84, rfl⟩
abbrev main_v28 : Ref sig .tc := ⟨.hbm, 85, rfl⟩
abbrev main_c_10 : Ref sig .tc := ⟨.hbm, 86, rfl⟩
abbrev main_call4_v0 : Ref sig .tc := ⟨.hbm, 87, rfl⟩
abbrev main_call4_v1 : Ref sig .tc := ⟨.hbm, 88, rfl⟩
abbrev main_v29 : Ref sig .tc := ⟨.hbm, 89, rfl⟩
abbrev main_v30 : Ref sig .tc := ⟨.hbm, 90, rfl⟩
abbrev main_call5_v0 : Ref sig .tc := ⟨.hbm, 91, rfl⟩
abbrev main_call5_call0_c : Ref sig .tc := ⟨.hbm, 92, rfl⟩
abbrev main_call5_call0_v0 : Ref sig .tc := ⟨.hbm, 93, rfl⟩
abbrev main_v31 : Ref sig .tc := ⟨.hbm, 94, rfl⟩
abbrev main_c_11 : Ref sig .tc := ⟨.hbm, 95, rfl⟩
abbrev main_v32 : Ref sig .tc := ⟨.hbm, 96, rfl⟩
abbrev main_c_12 : Ref sig .tc := ⟨.hbm, 97, rfl⟩
abbrev main_v33 : Ref sig .tc := ⟨.hbm, 98, rfl⟩
abbrev main_v34 : Ref sig .tc := ⟨.hbm, 99, rfl⟩
abbrev main_c_13 : Ref sig .tc := ⟨.hbm, 100, rfl⟩
abbrev main_v35 : Ref sig .tc := ⟨.hbm, 101, rfl⟩
abbrev main_v36 : Ref sig .tc := ⟨.hbm, 102, rfl⟩
abbrev main_v37 : Ref sig .tc := ⟨.hbm, 103, rfl⟩
abbrev main_v38 : Ref sig .tc := ⟨.hbm, 104, rfl⟩
abbrev main_c_14 : Ref sig .tc := ⟨.hbm, 105, rfl⟩
abbrev main_v39 : Ref sig .tc := ⟨.hbm, 106, rfl⟩
abbrev main_v40 : Ref sig .tc := ⟨.hbm, 107, rfl⟩
abbrev main_call6_call0_c : Ref sig .tc := ⟨.hbm, 108, rfl⟩
abbrev main_call6_call0_v0 : Ref sig .tc := ⟨.hbm, 109, rfl⟩
abbrev main_v41 : Ref sig .tc := ⟨.hbm, 110, rfl⟩
abbrev main_c_15 : Ref sig .tc := ⟨.hbm, 111, rfl⟩
abbrev main_call7_v0 : Ref sig .tc := ⟨.hbm, 112, rfl⟩
abbrev main_call7_v1 : Ref sig .tc := ⟨.hbm, 113, rfl⟩
abbrev main_call7_v2 : Ref sig .tc := ⟨.hbm, 114, rfl⟩
abbrev main_call7_v3 : Ref sig .tc := ⟨.hbm, 115, rfl⟩
abbrev main_call7_v4 : Ref sig .tc := ⟨.hbm, 116, rfl⟩
abbrev main_call7_v5 : Ref sig .tc := ⟨.hbm, 117, rfl⟩
abbrev main_call7_v6 : Ref sig .tc := ⟨.hbm, 118, rfl⟩
abbrev main_call7_v7 : Ref sig .tc := ⟨.hbm, 119, rfl⟩
abbrev main_call7_v8 : Ref sig .tc := ⟨.hbm, 120, rfl⟩
abbrev main_call7_c : Ref sig .tc := ⟨.hbm, 121, rfl⟩
abbrev main_call7_v9 : Ref sig .tc := ⟨.hbm, 122, rfl⟩
abbrev main_call7_v10 : Ref sig .tc := ⟨.hbm, 123, rfl⟩
abbrev main_call7_v11 : Ref sig .tc := ⟨.hbm, 124, rfl⟩
abbrev main_call7_c_0 : Ref sig .tc := ⟨.hbm, 125, rfl⟩
abbrev main_call7_v12 : Ref sig .tc := ⟨.hbm, 126, rfl⟩
abbrev main_call7_v13 : Ref sig .tc := ⟨.hbm, 127, rfl⟩
abbrev main_v42 : Ref sig .tc := ⟨.hbm, 128, rfl⟩
abbrev main_c_16 : Ref sig .tc := ⟨.hbm, 129, rfl⟩
abbrev main_call8_v0 : Ref sig .tc := ⟨.hbm, 130, rfl⟩
abbrev main_call8_c : Ref sig .tc := ⟨.hbm, 131, rfl⟩
abbrev main_call8_v1 : Ref sig .tc := ⟨.hbm, 132, rfl⟩
abbrev main_call8_c_0 : Ref sig .tc := ⟨.hbm, 133, rfl⟩
abbrev main_call8_v2 : Ref sig .tc := ⟨.hbm, 134, rfl⟩
abbrev main_call8_v3 : Ref sig .tc := ⟨.hbm, 135, rfl⟩
abbrev main_call8_v4 : Ref sig .tc := ⟨.hbm, 136, rfl⟩
abbrev main_call8_c_1 : Ref sig .tc := ⟨.hbm, 137, rfl⟩
abbrev main_call8_v5 : Ref sig .tc := ⟨.hbm, 138, rfl⟩
abbrev main_call8_v6 : Ref sig .tc := ⟨.hbm, 139, rfl⟩
abbrev main_call8_c_2 : Ref sig .tc := ⟨.hbm, 140, rfl⟩
abbrev main_call8_v7 : Ref sig .tc := ⟨.hbm, 141, rfl⟩
abbrev main_call8_v8 : Ref sig .tc := ⟨.hbm, 142, rfl⟩
abbrev main_call8_c_3 : Ref sig .tc := ⟨.hbm, 143, rfl⟩
abbrev main_call8_v9 : Ref sig .tc := ⟨.hbm, 144, rfl⟩
abbrev main_call8_v10 : Ref sig .tc := ⟨.hbm, 145, rfl⟩
abbrev main_call8_v11 : Ref sig .tc := ⟨.hbm, 146, rfl⟩
abbrev main_call8_v12 : Ref sig .tc := ⟨.hbm, 147, rfl⟩
abbrev main_call8_v13 : Ref sig .tc := ⟨.hbm, 148, rfl⟩
abbrev main_call8_v14 : Ref sig .tc := ⟨.hbm, 149, rfl⟩
abbrev main_v43 : Ref sig .tc := ⟨.hbm, 150, rfl⟩
abbrev main_v44 : Ref sig .tc := ⟨.hbm, 151, rfl⟩
abbrev main_c_17 : Ref sig .tc := ⟨.hbm, 152, rfl⟩
abbrev main_v45 : Ref sig .tc := ⟨.hbm, 153, rfl⟩
abbrev main_v46 : Ref sig .tc := ⟨.hbm, 154, rfl⟩
abbrev main_v47 : Ref sig .tc := ⟨.hbm, 155, rfl⟩
abbrev main_v48 : Ref sig .tc := ⟨.hbm, 156, rfl⟩
abbrev main_v49 : Ref sig .tc := ⟨.hbm, 157, rfl⟩
abbrev main_c_18 : Ref sig .tc := ⟨.hbm, 158, rfl⟩
abbrev main_call9_v0 : Ref sig .tc := ⟨.hbm, 159, rfl⟩
abbrev main_call9_v1 : Ref sig .tc := ⟨.hbm, 160, rfl⟩
abbrev main_v50 : Ref sig .tc := ⟨.hbm, 161, rfl⟩
abbrev main_v51 : Ref sig .tc := ⟨.hbm, 162, rfl⟩
abbrev main_cst : Ref sig .tc := ⟨.hbm, 163, rfl⟩
abbrev main_v52 : Ref sig .tc := ⟨.hbm, 164, rfl⟩
abbrev main_cst_19 : Ref sig .tc := ⟨.hbm, 165, rfl⟩
abbrev main_v53 : Ref sig .tc := ⟨.hbm, 166, rfl⟩
abbrev main_c_20 : Ref sig .tc := ⟨.hbm, 167, rfl⟩
abbrev main_v54 : Ref sig .tc := ⟨.hbm, 168, rfl⟩
abbrev main_v55 : Ref sig .tc := ⟨.hbm, 169, rfl⟩
abbrev main_c_21 : Ref sig .tc := ⟨.hbm, 170, rfl⟩
abbrev main_v56 : Ref sig .tc := ⟨.hbm, 171, rfl⟩
abbrev main_v57 : Ref sig .tc := ⟨.hbm, 172, rfl⟩
abbrev main_v58 : Ref sig .tc := ⟨.hbm, 173, rfl⟩
abbrev main_c_22 : Ref sig .tc := ⟨.hbm, 174, rfl⟩
abbrev main_v59 : Ref sig .tc := ⟨.hbm, 175, rfl⟩
abbrev main_v60 : Ref sig .tc := ⟨.hbm, 176, rfl⟩
abbrev main_v61 : Ref sig .tc := ⟨.hbm, 177, rfl⟩
abbrev main_v62 : Ref sig .tc := ⟨.hbm, 178, rfl⟩
abbrev main_v63 : Ref sig .tc := ⟨.hbm, 179, rfl⟩
abbrev main_v64 : Ref sig .tc := ⟨.hbm, 180, rfl⟩
abbrev main_v65 : Ref sig .tc := ⟨.hbm, 181, rfl⟩
abbrev main_c_23 : Ref sig .tc := ⟨.hbm, 182, rfl⟩
abbrev main_v66 : Ref sig .tc := ⟨.hbm, 183, rfl⟩
abbrev main_v67 : Ref sig .tc := ⟨.hbm, 184, rfl⟩
abbrev main_c_24 : Ref sig .tc := ⟨.hbm, 185, rfl⟩
abbrev main_v68 : Ref sig .tc := ⟨.hbm, 186, rfl⟩
abbrev main_v69 : Ref sig .tc := ⟨.hbm, 187, rfl⟩
abbrev main_v70 : Ref sig .tc := ⟨.hbm, 188, rfl⟩
abbrev main_c_25 : Ref sig .tc := ⟨.hbm, 189, rfl⟩
abbrev main_v71 : Ref sig .tc := ⟨.hbm, 190, rfl⟩
abbrev main_v72 : Ref sig .tc := ⟨.hbm, 191, rfl⟩
abbrev main_v73 : Ref sig .tc := ⟨.hbm, 192, rfl⟩
abbrev main_v74 : Ref sig .tc := ⟨.hbm, 193, rfl⟩
abbrev main_v75 : Ref sig .tc := ⟨.hbm, 194, rfl⟩
abbrev main_cst_26 : Ref sig .tc := ⟨.hbm, 195, rfl⟩
abbrev main_v76 : Ref sig .tc := ⟨.hbm, 196, rfl⟩
abbrev main_v77 : Ref sig .tc := ⟨.hbm, 197, rfl⟩
abbrev main_v78 : Ref sig .tc := ⟨.hbm, 198, rfl⟩
abbrev main_c_27 : Ref sig .tc := ⟨.hbm, 199, rfl⟩
abbrev main_v79 : Ref sig .tc := ⟨.hbm, 200, rfl⟩
abbrev main_v80 : Ref sig .tc := ⟨.hbm, 201, rfl⟩
abbrev main_c_28 : Ref sig .tc := ⟨.hbm, 202, rfl⟩
abbrev main_v81 : Ref sig .tc := ⟨.hbm, 203, rfl⟩
abbrev main_v82 : Ref sig .tc := ⟨.hbm, 204, rfl⟩
abbrev main_v83 : Ref sig .tc := ⟨.hbm, 205, rfl⟩
abbrev main_v84 : Ref sig .tc := ⟨.hbm, 206, rfl⟩
abbrev main_v85 : Ref sig .tc := ⟨.hbm, 207, rfl⟩
abbrev main_cst_29 : Ref sig .tc := ⟨.hbm, 208, rfl⟩
abbrev main_v86 : Ref sig .tc := ⟨.hbm, 209, rfl⟩
abbrev main_c_30 : Ref sig .tc := ⟨.hbm, 210, rfl⟩
abbrev main_v87 : Ref sig .tc := ⟨.hbm, 211, rfl⟩
abbrev main_v88 : Ref sig .tc := ⟨.hbm, 212, rfl⟩
abbrev main_c_31 : Ref sig .tc := ⟨.hbm, 213, rfl⟩
abbrev main_v89 : Ref sig .tc := ⟨.hbm, 214, rfl⟩
abbrev main_v90 : Ref sig .tc := ⟨.hbm, 215, rfl⟩
abbrev main_v91 : Ref sig .tc := ⟨.hbm, 216, rfl⟩
abbrev main_v92 : Ref sig .tc := ⟨.hbm, 217, rfl⟩
abbrev main_v93 : Ref sig .tc := ⟨.hbm, 218, rfl⟩
abbrev main_c_32 : Ref sig .tc := ⟨.hbm, 219, rfl⟩
abbrev main_v94 : Ref sig .tc := ⟨.hbm, 220, rfl⟩
abbrev main_v95 : Ref sig .tc := ⟨.hbm, 221, rfl⟩
abbrev main_c_33 : Ref sig .tc := ⟨.hbm, 222, rfl⟩
abbrev main_v96 : Ref sig .tc := ⟨.hbm, 223, rfl⟩
abbrev main_v97 : Ref sig .tc := ⟨.hbm, 224, rfl⟩
abbrev main_v98 : Ref sig .tc := ⟨.hbm, 225, rfl⟩
abbrev main_v99 : Ref sig .tc := ⟨.hbm, 226, rfl⟩
abbrev main_v100 : Ref sig .tc := ⟨.hbm, 227, rfl⟩
abbrev main_v101 : Ref sig .tc := ⟨.hbm, 228, rfl⟩
abbrev main_c_34 : Ref sig .tc := ⟨.hbm, 229, rfl⟩
abbrev main_v102 : Ref sig .tc := ⟨.hbm, 230, rfl⟩
abbrev main_v103 : Ref sig .tc := ⟨.hbm, 231, rfl⟩
abbrev main_c_35 : Ref sig .tc := ⟨.hbm, 232, rfl⟩
abbrev main_v104 : Ref sig .tc := ⟨.hbm, 233, rfl⟩
abbrev main_v105 : Ref sig .tc := ⟨.hbm, 234, rfl⟩
abbrev main_v106 : Ref sig .tc := ⟨.hbm, 235, rfl⟩
abbrev main_v107 : Ref sig .tc := ⟨.hbm, 236, rfl⟩
abbrev main_v108 : Ref sig .tc := ⟨.hbm, 237, rfl⟩
abbrev main_c_36 : Ref sig .tc := ⟨.hbm, 238, rfl⟩
abbrev main_v109 : Ref sig .tc := ⟨.hbm, 239, rfl⟩
abbrev main_v110 : Ref sig .tc := ⟨.hbm, 240, rfl⟩
abbrev main_c_37 : Ref sig .tc := ⟨.hbm, 241, rfl⟩
abbrev main_v111 : Ref sig .tc := ⟨.hbm, 242, rfl⟩
abbrev main_v112 : Ref sig .tc := ⟨.hbm, 243, rfl⟩
abbrev main_v113 : Ref sig .tc := ⟨.hbm, 244, rfl⟩
abbrev main_v114 : Ref sig .tc := ⟨.hbm, 245, rfl⟩
abbrev main_v115 : Ref sig .tc := ⟨.hbm, 246, rfl⟩
abbrev main_v116 : Ref sig .tc := ⟨.hbm, 247, rfl⟩
abbrev main_v117 : Ref sig .tc := ⟨.hbm, 248, rfl⟩
abbrev main_v118 : Ref sig .tc := ⟨.hbm, 249, rfl⟩
abbrev main_v119 : Ref sig .tc := ⟨.hbm, 250, rfl⟩
abbrev main_v120 : Ref sig .tc := ⟨.hbm, 251, rfl⟩
abbrev main_v121 : Ref sig .tc := ⟨.hbm, 252, rfl⟩
abbrev main_v122 : Ref sig .tc := ⟨.hbm, 253, rfl⟩
abbrev main_v123 : Ref sig .tc := ⟨.hbm, 254, rfl⟩
abbrev main_v124 : Ref sig .tc := ⟨.hbm, 255, rfl⟩
abbrev main_v125 : Ref sig .tc := ⟨.hbm, 256, rfl⟩
abbrev main_v126 : Ref sig .tc := ⟨.hbm, 257, rfl⟩
abbrev main_v127 : Ref sig .tc := ⟨.hbm, 258, rfl⟩
abbrev main_v128 : Ref sig .tc := ⟨.hbm, 259, rfl⟩
abbrev main_v129 : Ref sig .tc := ⟨.hbm, 260, rfl⟩
abbrev main_v130 : Ref sig .tc := ⟨.hbm, 261, rfl⟩
abbrev main_v131 : Ref sig .tc := ⟨.hbm, 262, rfl⟩
abbrev main_v132 : Ref sig .tc := ⟨.hbm, 263, rfl⟩
abbrev main_v133 : Ref sig .tc := ⟨.hbm, 264, rfl⟩
abbrev main_v134 : Ref sig .tc := ⟨.hbm, 265, rfl⟩
abbrev main_cst_38 : Ref sig .tc := ⟨.hbm, 266, rfl⟩
abbrev main_v135 : Ref sig .tc := ⟨.hbm, 267, rfl⟩
abbrev main_v136 : Ref sig .tc := ⟨.hbm, 268, rfl⟩
abbrev main_v137 : Ref sig .tc := ⟨.hbm, 269, rfl⟩
abbrev main_v138 : Ref sig .tc := ⟨.hbm, 270, rfl⟩
abbrev main_v139 : Ref sig .tc := ⟨.hbm, 271, rfl⟩
abbrev main_v140 : Ref sig .tc := ⟨.hbm, 272, rfl⟩
abbrev main_v141 : Ref sig .tc := ⟨.hbm, 273, rfl⟩
abbrev main_v142 : Ref sig .tc := ⟨.hbm, 274, rfl⟩
abbrev main_v143 : Ref sig .tc := ⟨.hbm, 275, rfl⟩
abbrev main_v144 : Ref sig .tc := ⟨.hbm, 276, rfl⟩
abbrev main_v145 : Ref sig .tc := ⟨.hbm, 277, rfl⟩
abbrev main_v146 : Ref sig .tc := ⟨.hbm, 278, rfl⟩
abbrev main_v147 : Ref sig .tc := ⟨.hbm, 279, rfl⟩
abbrev main_v148 : Ref sig .tc := ⟨.hbm, 280, rfl⟩
abbrev main_v149 : Ref sig .tc := ⟨.hbm, 281, rfl⟩
abbrev main_v150 : Ref sig .tc := ⟨.hbm, 282, rfl⟩
abbrev main_v151 : Ref sig .tc := ⟨.hbm, 283, rfl⟩
abbrev main_v152 : Ref sig .tc := ⟨.hbm, 284, rfl⟩
abbrev main_v153 : Ref sig .tc := ⟨.hbm, 285, rfl⟩
abbrev main_v154 : Ref sig .tc := ⟨.hbm, 286, rfl⟩
abbrev main_v155 : Ref sig .tc := ⟨.hbm, 287, rfl⟩
abbrev main_v156 : Ref sig .tc := ⟨.hbm, 288, rfl⟩
abbrev main_v157 : Ref sig .tc := ⟨.hbm, 289, rfl⟩
abbrev main_v158 : Ref sig .tc := ⟨.hbm, 290, rfl⟩
abbrev main_v159 : Ref sig .tc := ⟨.hbm, 291, rfl⟩
abbrev main_v160 : Ref sig .tc := ⟨.hbm, 292, rfl⟩
abbrev main_v161 : Ref sig .tc := ⟨.hbm, 293, rfl⟩
abbrev main_v162 : Ref sig .tc := ⟨.hbm, 294, rfl⟩
abbrev main_v163 : Ref sig .tc := ⟨.hbm, 295, rfl⟩
abbrev main_v164 : Ref sig .tc := ⟨.hbm, 296, rfl⟩
abbrev main_v165 : Ref sig .tc := ⟨.hbm, 297, rfl⟩
abbrev main_v166 : Ref sig .tc := ⟨.hbm, 298, rfl⟩
abbrev main_cst_39 : Ref sig .tc := ⟨.hbm, 299, rfl⟩
abbrev main_v167 : Ref sig .tc := ⟨.hbm, 300, rfl⟩
abbrev main_v168 : Ref sig .tc := ⟨.hbm, 301, rfl⟩
abbrev main_cst_40 : Ref sig .tc := ⟨.hbm, 302, rfl⟩
abbrev main_v169 : Ref sig .tc := ⟨.hbm, 303, rfl⟩
abbrev main_v170 : Ref sig .tc := ⟨.hbm, 304, rfl⟩
abbrev main_v171 : Ref sig .tc := ⟨.hbm, 305, rfl⟩
abbrev main_v172 : Ref sig .tc := ⟨.hbm, 306, rfl⟩
abbrev main_v173 : Ref sig .tc := ⟨.hbm, 307, rfl⟩
abbrev main_v174 : Ref sig .tc := ⟨.hbm, 308, rfl⟩
abbrev main_v175 : Ref sig .tc := ⟨.hbm, 309, rfl⟩
abbrev main_v176 : Ref sig .tc := ⟨.hbm, 310, rfl⟩
abbrev main_v177 : Ref sig .tc := ⟨.hbm, 311, rfl⟩
abbrev main_v178 : Ref sig .tc := ⟨.hbm, 312, rfl⟩
abbrev main_v179 : Ref sig .tc := ⟨.hbm, 313, rfl⟩
abbrev main_v180 : Ref sig .tc := ⟨.hbm, 314, rfl⟩
abbrev main_v181 : Ref sig .tc := ⟨.hbm, 315, rfl⟩
abbrev main_v182 : Ref sig .tc := ⟨.hbm, 316, rfl⟩
abbrev main_v183 : Ref sig .tc := ⟨.hbm, 317, rfl⟩
abbrev main_v184 : Ref sig .tc := ⟨.hbm, 318, rfl⟩
abbrev main_v185 : Ref sig .tc := ⟨.hbm, 319, rfl⟩
abbrev main_v186 : Ref sig .tc := ⟨.hbm, 320, rfl⟩
abbrev main_v187 : Ref sig .tc := ⟨.hbm, 321, rfl⟩
abbrev main_v188 : Ref sig .tc := ⟨.hbm, 322, rfl⟩
abbrev main_v189 : Ref sig .tc := ⟨.hbm, 323, rfl⟩
abbrev main_cst_41 : Ref sig .tc := ⟨.hbm, 324, rfl⟩
abbrev main_v190 : Ref sig .tc := ⟨.hbm, 325, rfl⟩
abbrev main_v191 : Ref sig .tc := ⟨.hbm, 326, rfl⟩
abbrev main_v192 : Ref sig .tc := ⟨.hbm, 327, rfl⟩
abbrev main_v193 : Ref sig .tc := ⟨.hbm, 328, rfl⟩
abbrev main_v194 : Ref sig .tc := ⟨.hbm, 329, rfl⟩
abbrev main_v195 : Ref sig .tc := ⟨.hbm, 330, rfl⟩
abbrev main_v196 : Ref sig .tc := ⟨.hbm, 331, rfl⟩
abbrev main_cst_42 : Ref sig .tc := ⟨.hbm, 332, rfl⟩
abbrev main_v197 : Ref sig .tc := ⟨.hbm, 333, rfl⟩
abbrev main_v198 : Ref sig .tc := ⟨.hbm, 334, rfl⟩
abbrev main_v199 : Ref sig .tc := ⟨.hbm, 335, rfl⟩
abbrev main_v200 : Ref sig .tc := ⟨.hbm, 336, rfl⟩
abbrev main_cst_43 : Ref sig .tc := ⟨.hbm, 337, rfl⟩
abbrev main_v201 : Ref sig .tc := ⟨.hbm, 338, rfl⟩
abbrev main_cst_44 : Ref sig .tc := ⟨.hbm, 339, rfl⟩
abbrev main_v202 : Ref sig .tc := ⟨.hbm, 340, rfl⟩
abbrev main_v203 : Ref sig .tc := ⟨.hbm, 341, rfl⟩
abbrev main_v204 : Ref sig .tc := ⟨.hbm, 342, rfl⟩
abbrev main_v205 : Ref sig .tc := ⟨.hbm, 343, rfl⟩
abbrev main_cst_45 : Ref sig .tc := ⟨.hbm, 344, rfl⟩
abbrev main_v206 : Ref sig .tc := ⟨.hbm, 345, rfl⟩

abbrev nD : Nat := 1
abbrev τ : Topo := Topo.v7x

variable {F : FTy → Type} [FloatOps F]
-- ==== Proof.Mesh.lean ====
/- The mesh that the precondition describes, element by element: the nodes of a regular 250 by 400 grid over the
   rectangle [0, 4] × [0, 1], its two triangles per cell, the list of the nodes on the left edge. -/
module

public import proofs.«01_k».proof.Defs
public import proofs.«01_k».proof.Proof.Gen.Pre_the_mesh
public import Idealize.ShloMosaic.Lib.Routing.Words
public import Idealize.ShloMosaic.Lib.Pipeline.Value
public import Idealize.ShloMosaic.Lib.ValueIdx
public import Idealize.ShloMosaic.PureOps.Ideal.Laws

@[expose] public section

noncomputable section

namespace Cert.Mesh

open Idealize.ShloMosaic Idealize.ShloMosaic.ValueIdx Idealize.ShloMosaic.WordCmp

/-- The mesh, over the three arrays that describe it: coordinates, triangles, nodes of the left edge. -/
structure IsMesh (xs : (⟨2, ![100000, 2]⟩ : Shape).Idx → EReal) (tri : (⟨2, ![198702, 3]⟩ : Shape).Idx → BitVec 32)
    (edge : (⟨1, ![250]⟩ : Shape).Idx → BitVec 32) : Prop where
  /-- Node `400 j + i` has first coordinate `4 i / 399`. -/
  cx : ∀ (j : Fin 250) (i : Fin 400) (n : Fin 100000), n.val = j.val * 400 + i.val →
    xs (ix2 n (0 : Fin 2)) = ((4 * (i.val : ℝ) / 399 : ℝ) : EReal)
  /-- Node `400 j + i` has second coordinate `j / 249`. -/
  cy : ∀ (j : Fin 250) (i : Fin 400) (n : Fin 100000), n.val = j.val * 400 + i.val →
    xs (ix2 n (1 : Fin 2)) = (((j.val : ℝ) / 249 : ℝ) : EReal)
  /-- The corners of the lower triangle of cell `(j, i)`. -/
  lo0 : ∀ (j : Fin 249) (i : Fin 399) (e : Fin 198702), e.val = j.val * 399 + i.val →
    tri (ix2 e (0 : Fin 3)) = BitVec.ofNat 32 (j.val * 400 + i.val)
  lo1 : ∀ (j : Fin 249) (i : Fin 399) (e : Fin 198702), e.val = j.val * 399 + i.val →
    tri (ix2 e (1 : Fin 3)) = BitVec.ofNat 32 (j.val * 400 + i.val + 1)
  lo2 : ∀ (j : Fin 249) (i : Fin 399) (e : Fin 198702), e.val = j.val * 399 + i.val →
    tri (ix2 e (2 : Fin 3)) = BitVec.ofNat 32 (j.val * 400 + i.val + 401)
  /-- The corners of the upper triangle of cell `(j, i)`. -/
  up0 : ∀ (j : Fin 249) (i : Fin 399) (e : Fin 198702), e.val = 99351 + (j.val * 399 + i.val) →
    tri (ix2 e (0 : Fin 3)) = BitVec.ofNat 32 (j.val * 400 + i.val)
  up1 : ∀ (j : Fin 249) (i : Fin 399) (e : Fin 198702), e.val = 99351 + (j.val * 399 + i.val) →
    tri (ix2 e (1 : Fin 3)) = BitVec.ofNat 32 (j.val * 400 + i.val + 401)
  up2 : ∀ (j : Fin 249) (i : Fin 399) (e : Fin 198702), e.val = 99351 + (j.val * 399 + i.val) →
    tri (ix2 e (2 : Fin 3)) = BitVec.ofNat 32 (j.val * 400 + i.val + 400)
  /-- The nodes of the left edge. -/
  edge : ∀ k : Fin 250, edge (ix1 k) = BitVec.ofNat 32 (k.val * 400)

open Cert.Pre_the_mesh

/-- An equality of extended reals that compares true. -/
theorem oeq_true {a b : EReal} (h : Ideal.cmp .oeq a b = 1#1) : a = b := by
  by_contra hne
  simp [Ideal.cmp, hne] at h

/-- A component of the reshaped coordinates. -/
theorem coord_read (x : S100000x2.Idx → EReal) (off : Fin 3 → ℕ) (hs : S250x400x2.Slices off S250x400x1) (q : Fin 2)
    (h0 : off 0 = 0) (h1 : off 1 = 0) (h2 : off 2 = q.val) (j : Fin 250) (i : Fin 400) (n : Fin 100000)
    (hn : n.val = j.val * 400 + i.val) (hc : S100000x2.ShapeCasts S250x400x2) (hd : S250x400x1.ShapeCasts S250x400) :
    shapeCast S250x400 (extractStridedSlice S250x400x1 off (shapeCast S250x400x2 x hc) hs) hd (ix2 j i) = x (ix2 n q) := by
  rw [shapeCast_apply _ hd (ix2 j i) (ix3 j i (0 : Fin 1)) (by
    rw [Shape.rowMajor_val_three, Shape.rowMajor_val_two]
    show (j.val * 400 + i.val) * 1 + 0 = j.val * 400 + i.val
    omega)]
  rw [extractStridedSlice_apply _ _ hs (ix3 j i (0 : Fin 1)) (ix3 j i q) (fun a => by
    match a with
    | ⟨0, _⟩ => show j.val = off 0 + j.val; omega
    | ⟨1, _⟩ => show i.val = off 1 + i.val; omega
    | ⟨2, _⟩ => show q.val = off 2 + 0; omega)]
  exact shapeCast_apply x hc _ _ (by
    rw [Shape.rowMajor_val_three, Shape.rowMajor_val_two]
    show n.val * 2 + q.val = (j.val * 400 + i.val) * 2 + q.val
    omega)

/-- A corner of the reshaped triangles. -/
theorem corner_read (x : S198702x3.Idx → BitVec 32) (off : Fin 4 → ℕ) (hs : S2x249x399x3.Slices off S1x249x399x1)
    (p : Fin 2) (q : Fin 3) (h0 : off 0 = p.val) (h1 : off 1 = 0) (h2 : off 2 = 0) (h3 : off 3 = q.val)
    (j : Fin 249) (i : Fin 399) (e : Fin 198702) (he : e.val = p.val * 99351 + (j.val * 399 + i.val))
    (hc : S198702x3.ShapeCasts S2x249x399x3) (hd : S1x249x399x1.ShapeCasts S249x399) :
    shapeCast S249x399 (extractStridedSlice S1x249x399x1 off (shapeCast S2x249x399x3 x hc) hs) hd (ix2 j i) = x (ix2 e q) := by
  rw [shapeCast_apply _ hd (ix2 j i) (ix4 (0 : Fin 1) j i (0 : Fin 1)) (by
    rw [Shape.rowMajor_val_four, Shape.rowMajor_val_two]
    show ((0 * 249 + j.val) * 399 + i.val) * 1 + 0 = j.val * 399 + i.val
    omega)]
  rw [extractStridedSlice_apply _ _ hs (ix4 (0 : Fin 1) j i (0 : Fin 1)) (ix4 p j i q) (fun a => by
    match a with
    | ⟨0, _⟩ => show p.val = off 0 + 0; omega
    | ⟨1, _⟩ => show j.val = off 1 + j.val; omega
    | ⟨2, _⟩ => show i.val = off 2 + i.val; omega
    | ⟨3, _⟩ => show q.val = off 3 + 0; omega)]
  exact shapeCast_apply x hc _ _ (by
    rw [Shape.rowMajor_val_four, Shape.rowMajor_val_two]
    show e.val * 3 + q.val = ((p.val * 249 + j.val) * 399 + i.val) * 3 + q.val
    omega)

/-- The larger of a number up to `m` and `m` is `m`, on signed words. -/
theorem maxsi_word {a m : ℕ} (h : a ≤ m) (hm : m < 2 ^ 31) : IntOp.maxsi (BitVec.ofNat 32 a) (BitVec.ofNat 32 m) = BitVec.ofNat 32 m := by
  have e1 : (BitVec.ofNat 32 a).toInt = (a : ℤ) := StableHlo.Predicate.toInt_ofNat_small a (show a < 2 ^ 31 by omega)
  have e2 : (BitVec.ofNat 32 m).toInt = (m : ℤ) := StableHlo.Predicate.toInt_ofNat_small m hm
  unfold IntOp.maxsi
  simp only [BitVec.slt, e1, e2]
  rw [if_neg (by simp; omega)]

/-- Two words that compare equal. -/
theorem eq_true {a b : BitVec 32} (h : IntOp.cmpi .eq a b = 1#1) : a = b := by
  by_contra hne
  have e : (a == b) = false := beq_eq_false_iff_ne.2 hne
  simp only [IntOp.cmpi, e] at h
  exact absurd h (by decide)

/-- The precondition says that the mesh is the regular one. -/
theorem isMesh_of (x0 : S199500.Idx → EReal) (x1 : S1.Idx → EReal) (x2 : S100000x2.Idx → EReal) (x3 : S198702x3.Idx → BitVec 32)
    (x4 : S250.Idx → BitVec 32)
    (H : let r := fn (F := Ideal) x0 x1 x2 x3 x4
      r.1 = (fun _ => 1#1) ∧ r.2.1 = (fun _ => 1#1) ∧ r.2.2.1 = (fun _ => 1#1) ∧ r.2.2.2.1 = (fun _ => 1#1)
        ∧ r.2.2.2.2.1 = (fun _ => 1#1) ∧ r.2.2.2.2.2.1 = (fun _ => 1#1) ∧ r.2.2.2.2.2.2.1 = (fun _ => 1#1)
        ∧ r.2.2.2.2.2.2.2.1 = (fun _ => 1#1) ∧ r.2.2.2.2.2.2.2.2 = (fun _ => 1#1)) : IsMesh x2 x3 x4 := by
  obtain ⟨hx, hy, h0, h1, h2, u0, u1, u2, he⟩ := H
  refine ⟨?_, ?_, ?_, ?_, ?_, ?_, ?_, ?_, ?_⟩
  · intro j i n hn
    have h := oeq_true (congrFun hx (ix2 j i))
    rw [coord_read x2 _ _ 0 rfl rfl rfl j i n hn] at h
    rw [h]
    show Ideal.div (((IntOp.muli (4#32) (BitVec.ofNat 32 i.val)).toInt : ℝ) : EReal)
      (((IntOp.maxsi (BitVec.ofNat 32 i.val) (BitVec.ofNat 32 399)).toInt : ℝ) : EReal) = _
    have hi := i.isLt
    rw [maxsi_word (by omega) (by decide), show IntOp.muli (4#32) (BitVec.ofNat 32 i.val) = BitVec.ofNat 32 (4 * i.val) from BitVec.ofNat_mul_ofNat 4 i.val,
      StableHlo.Predicate.toInt_ofNat_small _ (show 4 * i.val < 2 ^ 31 by omega), StableHlo.Predicate.toInt_ofNat_small _ (show 399 < 2 ^ 31 by decide),
      Ideal.div_coe (by norm_num), ← EReal.coe_mul]
    congr 1
    push_cast
    ring
  · intro j i n hn
    have h := oeq_true (congrFun hy (ix2 j i))
    rw [coord_read x2 _ _ 1 rfl rfl rfl j i n hn] at h
    rw [h]
    show Ideal.div (((BitVec.ofNat 32 j.val).toInt : ℝ) : EReal)
      (((IntOp.maxsi (BitVec.ofNat 32 j.val) (BitVec.ofNat 32 249)).toInt : ℝ) : EReal) = _
    have hj := j.isLt
    rw [maxsi_word (by omega) (by decide), StableHlo.Predicate.toInt_ofNat_small _ (show j.val < 2 ^ 31 by omega), StableHlo.Predicate.toInt_ofNat_small _ (show 249 < 2 ^ 31 by decide),
      Ideal.div_coe (by norm_num), ← EReal.coe_mul]
    congr 1
    push_cast
    ring
  · intro j i e he
    have h := eq_true (congrFun h0 (ix2 j i))
    rw [corner_read x3 _ _ 0 0 rfl rfl rfl rfl j i e (by rw [he]; simp)] at h
    rw [h]
    show IntOp.addi (IntOp.muli (BitVec.ofNat 32 j.val) (BitVec.ofNat 32 400)) (BitVec.ofNat 32 i.val) = _
    rw [muli_ofNat, addi_ofNat]
  · intro j i e he
    have h := eq_true (congrFun h1 (ix2 j i))
    rw [corner_read x3 _ _ 0 1 rfl rfl rfl rfl j i e (by rw [he]; simp)] at h
    rw [h]
    show IntOp.addi (IntOp.addi (IntOp.muli (BitVec.ofNat 32 j.val) (BitVec.ofNat 32 400)) (BitVec.ofNat 32 i.val)) (BitVec.ofNat 32 1) = _
    rw [muli_ofNat, addi_ofNat, addi_ofNat]
  · intro j i e he
    have h := eq_true (congrFun h2 (ix2 j i))
    rw [corner_read x3 _ _ 0 2 rfl rfl rfl rfl j i e (by rw [he]; simp)] at h
    rw [h]
    show IntOp.addi (IntOp.addi (IntOp.muli (BitVec.ofNat 32 j.val) (BitVec.ofNat 32 400)) (BitVec.ofNat 32 i.val)) (BitVec.ofNat 32 401) = _
    rw [muli_ofNat, addi_ofNat, addi_ofNat]
  · intro j i e he
    have h := eq_true (congrFun u0 (ix2 j i))
    rw [corner_read x3 _ _ 1 0 rfl rfl rfl rfl j i e (by rw [he]; simp)] at h
    rw [h]
    show IntOp.addi (IntOp.muli (BitVec.ofNat 32 j.val) (BitVec.ofNat 32 400)) (BitVec.ofNat 32 i.val) = _
    rw [muli_ofNat, addi_ofNat]
  · intro j i e he
    have h := eq_true (congrFun u1 (ix2 j i))
    rw [corner_read x3 _ _ 1 1 rfl rfl rfl rfl j i e (by rw [he]; simp)] at h
    rw [h]
    show IntOp.addi (IntOp.addi (IntOp.muli (BitVec.ofNat 32 j.val) (BitVec.ofNat 32 400)) (BitVec.ofNat 32 i.val)) (BitVec.ofNat 32 401) = _
    rw [muli_ofNat, addi_ofNat, addi_ofNat]
  · intro j i e he
    have h := eq_true (congrFun u2 (ix2 j i))
    rw [corner_read x3 _ _ 1 2 rfl rfl rfl rfl j i e (by rw [he]; simp)] at h
    rw [h]
    show IntOp.addi (IntOp.addi (IntOp.muli (BitVec.ofNat 32 j.val) (BitVec.ofNat 32 400)) (BitVec.ofNat 32 i.val)) (BitVec.ofNat 32 400) = _
    rw [muli_ofNat, addi_ofNat, addi_ofNat]
  · intro k
    have h := eq_true (congrFun he (ix1 k))
    rw [h]
    show IntOp.muli (BitVec.ofNat 32 k.val) (BitVec.ofNat 32 400) = _
    rw [muli_ofNat]

end Cert.Mesh

end
-- ==== Proof.Consts.lean ====
/- The constants of the two programs, as real numbers. -/
module

public import Idealize.ShloMosaic.PureOps.Ideal
public import Idealize.ShloMosaic.PureOps.Ideal.Laws

@[expose] public section

noncomputable section

namespace Cert.Con

open Idealize.ShloMosaic

/-- Half of the first Lamé constant. -/
def lam : ℝ := 12098954 / 4194304
/-- The second Lamé constant, the shear modulus. -/
def mu : ℝ := 16131938 / 4194304

theorem lam_nonneg : 0 ≤ lam := by unfold lam; norm_num
theorem mu_nonneg : 0 ≤ mu := by unfold mu; norm_num
theorem lam_pos : 0 < lam := by unfold lam; norm_num
theorem mu_pos : 0 < mu := by unfold mu; norm_num

theorem b_zero : (Scalar.ofBits (F := Ideal) .f32 0x00000000#32 : EReal) = 0 := by
  simp [Ideal.ofBits, Ideal.ieee, -EReal.coe_mul]
theorem b_half : (Scalar.ofBits (F := Ideal) .f32 0x3F000000#32 : EReal) = ((1 / 2 : ℝ) : EReal) := by
  simp [Ideal.ofBits, Ideal.ieee, -EReal.coe_mul]; norm_num
theorem b_one : (Scalar.ofBits (F := Ideal) .f32 0x3F800000#32 : EReal) = ((1 : ℝ) : EReal) := by
  simp [Ideal.ofBits, Ideal.ieee, -EReal.coe_mul]; norm_num
theorem b_two : (Scalar.ofBits (F := Ideal) .f32 0x40000000#32 : EReal) = ((2 : ℝ) : EReal) := by
  simp [Ideal.ofBits, Ideal.ieee, -EReal.coe_mul]; norm_num
theorem b_dx : (Scalar.ofBits (F := Ideal) .f32 0x42C78000#32 : EReal) = ((399 / 4 : ℝ) : EReal) := by
  simp [Ideal.ofBits, Ideal.ieee, -EReal.coe_mul]; norm_num
theorem b_dy : (Scalar.ofBits (F := Ideal) .f32 0x43790000#32 : EReal) = ((249 : ℝ) : EReal) := by
  simp [Ideal.ofBits, Ideal.ieee, -EReal.coe_mul]; norm_num
theorem b_lam : (Scalar.ofBits (F := Ideal) .f32 0x40389D8A#32 : EReal) = ((lam : ℝ) : EReal) := by
  unfold lam; simp [Ideal.ofBits, Ideal.ieee, -EReal.coe_mul]; norm_num
theorem b_mu : (Scalar.ofBits (F := Ideal) .f32 0x40762762#32 : EReal) = ((mu : ℝ) : EReal) := by
  unfold mu; simp [Ideal.ofBits, Ideal.ieee, -EReal.coe_mul]; norm_num

end Cert.Con

end
-- ==== Proof.Tri.lean ====
/- The energy density of one triangle over the extended reals, and the identities that hold there without any finiteness. -/
module

public import proofs.«01_k».proof.Proof.Consts
public import Idealize.ShloMosaic.Lib.ValueIdx
public import Idealize.ShloMosaic.PureOps.Reduce

@[expose] public section

noncomputable section

namespace Cert.Tri

open Idealize.ShloMosaic Idealize.ShloMosaic.ValueIdx Cert.Con

/-- The energy density of a displacement gradient with diagonal `p`, `q` and off-diagonal sum `t`. -/
def dens (p q t : EReal) : EReal :=
  ((lam : EReal) * (p + q)) * (p + q) + (mu : EReal) * ((p * p + q * q) + (((1 / 2 : ℝ) : EReal) * t) * t)

/-- The density of the triangle whose displacement differences are `da` along the first axis, `db` along the second. -/
def cell (da0 da1 db0 db1 : EReal) : EReal :=
  dens (da0 * ((399 / 4 : ℝ) : EReal)) (db1 * ((249 : ℝ) : EReal)) (db0 * ((249 : ℝ) : EReal) + da1 * ((399 / 4 : ℝ) : EReal))

/-- Multiplication by a nonnegative real distributes over a sum. -/
theorem mul_add_pos (c : ℝ) (hc : 0 ≤ c) (x y : EReal) : (x + y) * (c : EReal) = x * c + y * c :=
  EReal.right_distrib_of_nonneg_of_ne_top (by exact_mod_cast hc) (EReal.coe_ne_top c) x y

/-- Half of a double. -/
theorem half_double (p : EReal) : ((1 / 2 : ℝ) : EReal) * (p + p) = p := by
  induction p using EReal.rec with
  | bot => rw [EReal.bot_add]; exact EReal.coe_mul_bot_of_pos (by norm_num)
  | top => rw [EReal.top_add_top]; exact EReal.coe_mul_top_of_pos (by norm_num)
  | coe x => rw [← EReal.coe_add, ← EReal.coe_mul]; congr 1; ring

/-- Twice the square of a half is half of the square. -/
theorem half_square (t : EReal) :
    (((1 / 2 : ℝ) : EReal) * t) * (((1 / 2 : ℝ) : EReal) * t) + (((1 / 2 : ℝ) : EReal) * t) * (((1 / 2 : ℝ) : EReal) * t)
      = (((1 / 2 : ℝ) : EReal) * t) * t := by
  induction t using EReal.rec with
  | bot => rw [EReal.coe_mul_bot_of_pos (by norm_num), EReal.bot_mul_bot, EReal.top_add_top]
  | top => rw [EReal.coe_mul_top_of_pos (by norm_num), EReal.top_mul_top, EReal.top_add_top]
  | coe x => simp only [← EReal.coe_mul, ← EReal.coe_add]; congr 1; ring

/-- The density written with the symmetric part of the gradient `d`, entry by entry. -/
theorem strain (d00 d01 d10 d11 : EReal) (h : EReal) (hh : h = ((1 / 2 : ℝ) : EReal)) :
    ((lam : EReal) * (h * (d00 + d00) + h * (d11 + d11))) * (h * (d00 + d00) + h * (d11 + d11))
      + (mu : EReal) * (((h * (d00 + d00)) * (h * (d00 + d00)) + (h * (d01 + d10)) * (h * (d01 + d10)))
        + ((h * (d10 + d01)) * (h * (d10 + d01)) + (h * (d11 + d11)) * (h * (d11 + d11))))
    = dens d00 d11 (d01 + d10) := by
  subst hh
  unfold dens
  rw [half_double, half_double, add_comm d10 d01, ← half_square (d01 + d10)]
  congr 2
  abel

/-- A difference times a real, from its two products. -/
theorem diff_mul (u v : EReal) (c : ℝ) (hc : 0 ≤ c) : u * ((-c : ℝ) : EReal) + v * (c : EReal) = (v - u) * (c : EReal) := by
  rw [sub_eq_add_neg, mul_add_pos c hc, EReal.coe_neg, mul_neg, EReal.neg_mul, add_comm]

/-- The sum over a [2, 2] block of a rank-3 array. -/
theorem sum_block {E : ℕ} (h : (⟨3, ![E, 2, 2]⟩ : Shape).ReducesTo [1, 2] ⟨1, ![E]⟩) (x : (⟨3, ![E, 2, 2]⟩ : Shape).Idx → EReal)
    (init : EReal) (e : Fin E) :
    Ideal.hostReduceAdd h x init (ix1 e) = init + ∑ a : Fin 2, ∑ b : Fin 2, x (ix3 e a b) := by
  unfold Ideal.hostReduceAdd
  congr 1
  rw [← Fintype.sum_prod_type' (fun a b => x (ix3 e a b))]
  have hv : ∀ i : (⟨3, ![E, 2, 2]⟩ : Shape).Idx, (h.drop i 0 : Nat) = i 0 := fun i => Shape.ReducesTo.drop_apply_val h i 0
  refine Finset.sum_bij' (fun i _ => ((i 1 : Fin 2), (i 2 : Fin 2))) (fun p _ => ix3 e p.1 p.2) ?_ ?_ ?_ ?_ ?_
  · intro i _; exact Finset.mem_univ _
  · intro p _
    refine Finset.mem_filter.2 ⟨Finset.mem_univ _, funext fun b => Fin.ext ?_⟩
    match b with
    | ⟨0, _⟩ => exact hv _
  · intro i hi
    have hi := (Finset.mem_filter.1 hi).2
    have he : (i 0).val = e.val := (hv i).symm.trans (congrArg (fun f => (f 0 : Nat)) hi)
    funext b
    match b with
    | ⟨0, _⟩ => exact Fin.ext he.symm
    | ⟨1, _⟩ => rfl
    | ⟨2, _⟩ => rfl
  · intro p _; rfl
  · intro i hi
    have hi := (Finset.mem_filter.1 hi).2
    have he : (i 0).val = e.val := (hv i).symm.trans (congrArg (fun f => (f 0 : Nat)) hi)
    congr 1
    funext b
    match b with
    | ⟨0, _⟩ => exact Fin.ext he
    | ⟨1, _⟩ => rfl
    | ⟨2, _⟩ => rfl

end Cert.Tri

end
-- ==== Proof.Geo.lean ====
/- The reference's geometry of one triangle: its corners' coordinates, its area and its shape gradients. -/
module

public import proofs.«01_k».proof.Proof.Gen.ReferenceIdeal.Read
public import proofs.«01_k».proof.Proof.Consts
public import Idealize.ShloMosaic.Lib.Pipeline.Value
public import Idealize.ShloMosaic.Lib.ValueIdx

@[expose] public section

set_option maxRecDepth 16384

noncomputable section

namespace Cert.Geo

open Cert.ReferenceIdeal Cert.ReferenceIdeal.Gen Cert.ReferenceIdeal.Read Cert.Con
open Idealize.ShloMosaic Idealize.ShloMosaic.ValueIdx

variable (x2 : S100000x2.Idx → EReal) (x3 : S198702x3.Idx → BitVec 32) (e : Fin 198702)

/-- The coordinates of corner 0. -/
theorem v117_at (c : Fin 2) : val_main_v117 (F := Ideal) x2 x3 (ix2 e c) = val_main_v108 (F := Ideal) x2 x3 (ix3 e (0 : Fin 3) c) := by
  have hc := c.isLt
  rw [val_main_v117_apply, val_main_v116_apply]
  refine congrArg _ (funext fun a => Fin.ext ?_)
  match a with
  | ⟨0, _⟩ => show (e.val * 2 + c.val) / 2 = e.val; omega
  | ⟨1, _⟩ => rfl
  | ⟨2, _⟩ => show (e.val * 2 + c.val) % 2 = c.val; omega

/-- The coordinates of corner 1. -/
theorem v119_at (c : Fin 2) : val_main_v119 (F := Ideal) x2 x3 (ix2 e c) = val_main_v108 (F := Ideal) x2 x3 (ix3 e (1 : Fin 3) c) := by
  have hc := c.isLt
  rw [val_main_v119_apply, val_main_v118_apply]
  refine congrArg _ (funext fun a => Fin.ext ?_)
  match a with
  | ⟨0, _⟩ => show (e.val * 2 + c.val) / 2 = e.val; omega
  | ⟨1, _⟩ => rfl
  | ⟨2, _⟩ => show (e.val * 2 + c.val) % 2 = c.val; omega

/-- The coordinates of corner 2. -/
theorem v121_at (c : Fin 2) : val_main_v121 (F := Ideal) x2 x3 (ix2 e c) = val_main_v108 (F := Ideal) x2 x3 (ix3 e (2 : Fin 3) c) := by
  have hc := c.isLt
  rw [val_main_v121_apply, val_main_v120_apply]
  refine congrArg _ (funext fun a => Fin.ext ?_)
  match a with
  | ⟨0, _⟩ => show (e.val * 2 + c.val) / 2 = e.val; omega
  | ⟨1, _⟩ => rfl
  | ⟨2, _⟩ => show (e.val * 2 + c.val) % 2 = c.val; omega

theorem v125_at : val_main_v125 (F := Ideal) x2 x3 (ix1 e) = val_main_v122 (F := Ideal) x2 x3 (ix2 e (0 : Fin 2)) := by
  rw [val_main_v125_apply, val_main_v124_apply]
  refine congrArg _ (funext fun a => Fin.ext ?_)
  match a with
  | ⟨0, _⟩ => exact Nat.div_one _
  | ⟨1, _⟩ => rfl

theorem v127_at : val_main_v127 (F := Ideal) x2 x3 (ix1 e) = val_main_v123 (F := Ideal) x2 x3 (ix2 e (1 : Fin 2)) := by
  rw [val_main_v127_apply, val_main_v126_apply]
  refine congrArg _ (funext fun a => Fin.ext ?_)
  match a with
  | ⟨0, _⟩ => exact Nat.div_one _
  | ⟨1, _⟩ => rfl

theorem v130_at : val_main_v130 (F := Ideal) x2 x3 (ix1 e) = val_main_v122 (F := Ideal) x2 x3 (ix2 e (1 : Fin 2)) := by
  rw [val_main_v130_apply, val_main_v129_apply]
  refine congrArg _ (funext fun a => Fin.ext ?_)
  match a with
  | ⟨0, _⟩ => exact Nat.div_one _
  | ⟨1, _⟩ => rfl

theorem v132_at : val_main_v132 (F := Ideal) x2 x3 (ix1 e) = val_main_v123 (F := Ideal) x2 x3 (ix2 e (0 : Fin 2)) := by
  rw [val_main_v132_apply, val_main_v131_apply]
  refine congrArg _ (funext fun a => Fin.ext ?_)
  match a with
  | ⟨0, _⟩ => exact Nat.div_one _
  | ⟨1, _⟩ => rfl

theorem v138_at : val_main_v138 (F := Ideal) x2 x3 (ix1 e) = val_main_v119 (F := Ideal) x2 x3 (ix2 e (1 : Fin 2)) := by
  rw [val_main_v138_apply, val_main_v137_apply]
  refine congrArg _ (funext fun a => Fin.ext ?_)
  match a with
  | ⟨0, _⟩ => exact Nat.div_one _
  | ⟨1, _⟩ => rfl

theorem v140_at : val_main_v140 (F := Ideal) x2 x3 (ix1 e) = val_main_v121 (F := Ideal) x2 x3 (ix2 e (1 : Fin 2)) := by
  rw [val_main_v140_apply, val_main_v139_apply]
  refine congrArg _ (funext fun a => Fin.ext ?_)
  match a with
  | ⟨0, _⟩ => exact Nat.div_one _
  | ⟨1, _⟩ => rfl

theorem v143_at : val_main_v143 (F := Ideal) x2 x3 (ix1 e) = val_main_v121 (F := Ideal) x2 x3 (ix2 e (1 : Fin 2)) := by
  rw [val_main_v143_apply, val_main_v142_apply]
  refine congrArg _ (funext fun a => Fin.ext ?_)
  match a with
  | ⟨0, _⟩ => exact Nat.div_one _
  | ⟨1, _⟩ => rfl

theorem v145_at : val_main_v145 (F := Ideal) x2 x3 (ix1 e) = val_main_v117 (F := Ideal) x2 x3 (ix2 e (1 : Fin 2)) := by
  rw [val_main_v145_apply, val_main_v144_apply]
  refine congrArg _ (funext fun a => Fin.ext ?_)
  match a with
  | ⟨0, _⟩ => exact Nat.div_one _
  | ⟨1, _⟩ => rfl

theorem v148_at : val_main_v148 (F := Ideal) x2 x3 (ix1 e) = val_main_v117 (F := Ideal) x2 x3 (ix2 e (1 : Fin 2)) := by
  rw [val_main_v148_apply, val_main_v147_apply]
  refine congrArg _ (funext fun a => Fin.ext ?_)
  match a with
  | ⟨0, _⟩ => exact Nat.div_one _
  | ⟨1, _⟩ => rfl

theorem v150_at : val_main_v150 (F := Ideal) x2 x3 (ix1 e) = val_main_v119 (F := Ideal) x2 x3 (ix2 e (1 : Fin 2)) := by
  rw [val_main_v150_apply, val_main_v149_apply]
  refine congrArg _ (funext fun a => Fin.ext ?_)
  match a with
  | ⟨0, _⟩ => exact Nat.div_one _
  | ⟨1, _⟩ => rfl

theorem v153_at : val_main_v153 (F := Ideal) x2 x3 (ix1 e) = val_main_v121 (F := Ideal) x2 x3 (ix2 e (0 : Fin 2)) := by
  rw [val_main_v153_apply, val_main_v152_apply]
  refine congrArg _ (funext fun a => Fin.ext ?_)
  match a with
  | ⟨0, _⟩ => exact Nat.div_one _
  | ⟨1, _⟩ => rfl

theorem v155_at : val_main_v155 (F := Ideal) x2 x3 (ix1 e) = val_main_v119 (F := Ideal) x2 x3 (ix2 e (0 : Fin 2)) := by
  rw [val_main_v155_apply, val_main_v154_apply]
  refine congrArg _ (funext fun a => Fin.ext ?_)
  match a with
  | ⟨0, _⟩ => exact Nat.div_one _
  | ⟨1, _⟩ => rfl

theorem v158_at : val_main_v158 (F := Ideal) x2 x3 (ix1 e) = val_main_v117 (F := Ideal) x2 x3 (ix2 e (0 : Fin 2)) := by
  rw [val_main_v158_apply, val_main_v157_apply]
  refine congrArg _ (funext fun a => Fin.ext ?_)
  match a with
  | ⟨0, _⟩ => exact Nat.div_one _
  | ⟨1, _⟩ => rfl

theorem v160_at : val_main_v160 (F := Ideal) x2 x3 (ix1 e) = val_main_v121 (F := Ideal) x2 x3 (ix2 e (0 : Fin 2)) := by
  rw [val_main_v160_apply, val_main_v159_apply]
  refine congrArg _ (funext fun a => Fin.ext ?_)
  match a with
  | ⟨0, _⟩ => exact Nat.div_one _
  | ⟨1, _⟩ => rfl

theorem v163_at : val_main_v163 (F := Ideal) x2 x3 (ix1 e) = val_main_v119 (F := Ideal) x2 x3 (ix2 e (0 : Fin 2)) := by
  rw [val_main_v163_apply, val_main_v162_apply]
  refine congrArg _ (funext fun a => Fin.ext ?_)
  match a with
  | ⟨0, _⟩ => exact Nat.div_one _
  | ⟨1, _⟩ => rfl

theorem v165_at : val_main_v165 (F := Ideal) x2 x3 (ix1 e) = val_main_v117 (F := Ideal) x2 x3 (ix2 e (0 : Fin 2)) := by
  rw [val_main_v165_apply, val_main_v164_apply]
  refine congrArg _ (funext fun a => Fin.ext ?_)
  match a with
  | ⟨0, _⟩ => exact Nat.div_one _
  | ⟨1, _⟩ => rfl

variable (X : Fin 3 → Fin 2 → ℝ) (hX : ∀ k c, val_main_v108 (F := Ideal) x2 x3 (ix3 e k c) = ((X k c : ℝ) : EReal))

/-- Twice the area of the triangle with corners `X`. -/
def det (X : Fin 3 → Fin 2 → ℝ) : ℝ := (X 1 0 - X 0 0) * (X 2 1 - X 0 1) - (X 1 1 - X 0 1) * (X 2 0 - X 0 0)

/-- The shape gradient of corner `k`, times twice the area: the opposite edge turned a quarter. -/
def opp (X : Fin 3 → Fin 2 → ℝ) : Fin 3 → Fin 2 → ℝ :=
  ![![X 1 1 - X 2 1, X 2 0 - X 1 0], ![X 2 1 - X 0 1, X 0 0 - X 2 0], ![X 0 1 - X 1 1, X 1 0 - X 0 0]]

include hX in
theorem v141_at : val_main_v141 (F := Ideal) x2 x3 (ix1 e) = ((X 1 1 - X 2 1 : ℝ) : EReal) := by
  rw [val_main_v141_apply, v138_at, v140_at, v119_at, v121_at, hX, hX]
  exact (EReal.coe_sub _ _).symm

include hX in
theorem v146_at : val_main_v146 (F := Ideal) x2 x3 (ix1 e) = ((X 2 1 - X 0 1 : ℝ) : EReal) := by
  rw [val_main_v146_apply, v143_at, v145_at, v121_at, v117_at, hX, hX]
  exact (EReal.coe_sub _ _).symm

include hX in
theorem v151_at : val_main_v151 (F := Ideal) x2 x3 (ix1 e) = ((X 0 1 - X 1 1 : ℝ) : EReal) := by
  rw [val_main_v151_apply, v148_at, v150_at, v117_at, v119_at, hX, hX]
  exact (EReal.coe_sub _ _).symm

include hX in
theorem v156_at : val_main_v156 (F := Ideal) x2 x3 (ix1 e) = ((X 2 0 - X 1 0 : ℝ) : EReal) := by
  rw [val_main_v156_apply, v153_at, v155_at, v121_at, v119_at, hX, hX]
  exact (EReal.coe_sub _ _).symm

include hX in
theorem v161_at : val_main_v161 (F := Ideal) x2 x3 (ix1 e) = ((X 0 0 - X 2 0 : ℝ) : EReal) := by
  rw [val_main_v161_apply, v158_at, v160_at, v117_at, v121_at, hX, hX]
  exact (EReal.coe_sub _ _).symm

include hX in
theorem v166_at : val_main_v166 (F := Ideal) x2 x3 (ix1 e) = ((X 1 0 - X 0 0 : ℝ) : EReal) := by
  rw [val_main_v166_apply, v163_at, v165_at, v119_at, v117_at, hX, hX]
  exact (EReal.coe_sub _ _).symm

include hX in
theorem v122_at (c : Fin 2) : val_main_v122 (F := Ideal) x2 x3 (ix2 e c) = ((X 1 c - X 0 c : ℝ) : EReal) := by
  rw [val_main_v122_apply, v119_at, v117_at, hX, hX]
  exact (EReal.coe_sub _ _).symm

include hX in
theorem v123_at (c : Fin 2) : val_main_v123 (F := Ideal) x2 x3 (ix2 e c) = ((X 2 c - X 0 c : ℝ) : EReal) := by
  rw [val_main_v123_apply, v121_at, v117_at, hX, hX]
  exact (EReal.coe_sub _ _).symm

include hX in
/-- Twice the area. -/
theorem v134_at : val_main_v134 (F := Ideal) x2 x3 (ix1 e) = ((det X : ℝ) : EReal) := by
  rw [val_main_v134_apply, val_main_v128_apply, val_main_v133_apply, v125_at, v127_at, v130_at, v132_at,
    v122_at x2 x3 e X hX, v122_at x2 x3 e X hX, v123_at x2 x3 e X hX, v123_at x2 x3 e X hX]
  show ((_ : ℝ) : EReal) * ((_ : ℝ) : EReal) - ((_ : ℝ) : EReal) * ((_ : ℝ) : EReal) = _
  rw [← EReal.coe_mul, ← EReal.coe_mul, ← EReal.coe_sub]
  rfl

include hX in
/-- The area. -/
theorem v136_at : val_main_v136 (F := Ideal) x2 x3 (ix1 e) = ((1 / 2 * det X : ℝ) : EReal) := by
  rw [val_main_v136_apply, v134_at x2 x3 e X hX, val_main_v135_apply, val_main_cst_38_apply]
  show (Scalar.ofBits (F := Ideal) .f32 0x3F000000#32 : EReal) * _ = _
  rw [b_half, ← EReal.coe_mul]

include hX in
/-- The reciprocal of twice the area. -/
theorem v170_at (hd : det X ≠ 0) : val_main_v170 (F := Ideal) x2 x3 (ix1 e) = ((1 / det X : ℝ) : EReal) := by
  rw [val_main_v170_apply, val_main_v168_apply, v136_at x2 x3 e X hX, val_main_v167_apply, val_main_cst_39_apply,
    val_main_v169_apply, val_main_cst_40_apply]
  show Ideal.div (Scalar.ofBits (F := Ideal) .f32 0x3F800000#32) ((Scalar.ofBits (F := Ideal) .f32 0x40000000#32 : EReal) * _) = _
  rw [b_one, b_two, ← EReal.coe_mul, show (2 * (1 / 2 * det X) : ℝ) = det X by ring, Ideal.div_coe hd, ← EReal.coe_mul, one_mul]

include hX in
theorem v173_at (c : Fin 2) : val_main_v173 (F := Ideal) x2 x3 (ix2 e c) = ((opp X 0 c : ℝ) : EReal) := by
  unfold val_main_v173
  match c with
  | ⟨0, _⟩ =>
    refine (concatenate_pair_apply_left (1 : Fin S198702x2.rank) (val_main_v171 (F := Ideal) x2 x3) (val_main_v172 (F := Ideal) x2 x3) _ _ rfl (ix2 e (0 : Fin 1)) fun b => by
      match b with
      | ⟨0, _⟩ => rfl
      | ⟨1, _⟩ => rfl).trans ?_
    rw [val_main_v171_apply, show idx_main_v171 (ix2 e (0 : Fin 1)) = ix1 e from by funext a; match a with | ⟨0, _⟩ => rfl, v141_at x2 x3 e X hX]
    rfl
  | ⟨1, _⟩ =>
    refine (concatenate_pair_apply_right (1 : Fin S198702x2.rank) (val_main_v171 (F := Ideal) x2 x3) (val_main_v172 (F := Ideal) x2 x3) _ _ rfl rfl (ix2 e (0 : Fin 1)) (fun b hb => by
      match b with
      | ⟨0, _⟩ => rfl
      | ⟨1, _⟩ => exact (hb rfl).elim) rfl).trans ?_
    rw [val_main_v172_apply, show idx_main_v172 (ix2 e (0 : Fin 1)) = ix1 e from by funext a; match a with | ⟨0, _⟩ => rfl, v156_at x2 x3 e X hX]
    rfl

include hX in
theorem v176_at (c : Fin 2) : val_main_v176 (F := Ideal) x2 x3 (ix2 e c) = ((opp X 1 c : ℝ) : EReal) := by
  unfold val_main_v176
  match c with
  | ⟨0, _⟩ =>
    refine (concatenate_pair_apply_left (1 : Fin S198702x2.rank) (val_main_v174 (F := Ideal) x2 x3) (val_main_v175 (F := Ideal) x2 x3) _ _ rfl (ix2 e (0 : Fin 1)) fun b => by
      match b with
      | ⟨0, _⟩ => rfl
      | ⟨1, _⟩ => rfl).trans ?_
    rw [val_main_v174_apply, show idx_main_v174 (ix2 e (0 : Fin 1)) = ix1 e from by funext a; match a with | ⟨0, _⟩ => rfl, v146_at x2 x3 e X hX]
    rfl
  | ⟨1, _⟩ =>
    refine (concatenate_pair_apply_right (1 : Fin S198702x2.rank) (val_main_v174 (F := Ideal) x2 x3) (val_main_v175 (F := Ideal) x2 x3) _ _ rfl rfl (ix2 e (0 : Fin 1)) (fun b hb => by
      match b with
      | ⟨0, _⟩ => rfl
      | ⟨1, _⟩ => exact (hb rfl).elim) rfl).trans ?_
    rw [val_main_v175_apply, show idx_main_v175 (ix2 e (0 : Fin 1)) = ix1 e from by funext a; match a with | ⟨0, _⟩ => rfl, v161_at x2 x3 e X hX]
    rfl

include hX in
theorem v179_at (c : Fin 2) : val_main_v179 (F := Ideal) x2 x3 (ix2 e c) = ((opp X 2 c : ℝ) : EReal) := by
  unfold val_main_v179
  match c with
  | ⟨0, _⟩ =>
    refine (concatenate_pair_apply_left (1 : Fin S198702x2.rank) (val_main_v177 (F := Ideal) x2 x3) (val_main_v178 (F := Ideal) x2 x3) _ _ rfl (ix2 e (0 : Fin 1)) fun b => by
      match b with
      | ⟨0, _⟩ => rfl
      | ⟨1, _⟩ => rfl).trans ?_
    rw [val_main_v177_apply, show idx_main_v177 (ix2 e (0 : Fin 1)) = ix1 e from by funext a; match a with | ⟨0, _⟩ => rfl, v151_at x2 x3 e X hX]
    rfl
  | ⟨1, _⟩ =>
    refine (concatenate_pair_apply_right (1 : Fin S198702x2.rank) (val_main_v177 (F := Ideal) x2 x3) (val_main_v178 (F := Ideal) x2 x3) _ _ rfl rfl (ix2 e (0 : Fin 1)) (fun b hb => by
      match b with
      | ⟨0, _⟩ => rfl
      | ⟨1, _⟩ => exact (hb rfl).elim) rfl).trans ?_
    rw [val_main_v178_apply, show idx_main_v178 (ix2 e (0 : Fin 1)) = ix1 e from by funext a; match a with | ⟨0, _⟩ => rfl, v166_at x2 x3 e X hX]
    rfl

include hX in
/-- The gradients of the three shape functions, times twice the area. -/
theorem v183_at (k : Fin 3) (c : Fin 2) : val_main_v183 (F := Ideal) x2 x3 (ix3 e k c) = ((opp X k c : ℝ) : EReal) := by
  unfold val_main_v183
  match k with
  | ⟨0, _⟩ =>
    refine (concatenate_apply_piece (1 : Fin S198702x3x2.rank) _ _ (ix3 e (0 : Fin 3) c) 0 (by show 0 < 3; omega) S198702x1x2 (val_main_v180 (F := Ideal) x2 x3) rfl rfl 0 rfl
      (ix3 e (0 : Fin 1) c) (fun b hb => by
        match b with
        | ⟨0, _⟩ => rfl
        | ⟨1, _⟩ => exact (hb rfl).elim
        | ⟨2, _⟩ => rfl) rfl).trans ?_
    rw [val_main_v180_apply, show idx_main_v180 (ix3 e (0 : Fin 1) c) = ix2 e c from by
      funext a
      match a with
      | ⟨0, _⟩ => rfl
      | ⟨1, _⟩ => rfl, v173_at x2 x3 e X hX]
    rfl
  | ⟨1, _⟩ =>
    refine (concatenate_apply_piece (1 : Fin S198702x3x2.rank) _ _ (ix3 e (1 : Fin 3) c) 1 (by show 1 < 3; omega) S198702x1x2 (val_main_v181 (F := Ideal) x2 x3) rfl rfl 1 rfl
      (ix3 e (0 : Fin 1) c) (fun b hb => by
        match b with
        | ⟨0, _⟩ => rfl
        | ⟨1, _⟩ => exact (hb rfl).elim
        | ⟨2, _⟩ => rfl) rfl).trans ?_
    rw [val_main_v181_apply, show idx_main_v181 (ix3 e (0 : Fin 1) c) = ix2 e c from by
      funext a
      match a with
      | ⟨0, _⟩ => rfl
      | ⟨1, _⟩ => rfl, v176_at x2 x3 e X hX]
    rfl
  | ⟨2, _⟩ =>
    refine (concatenate_apply_piece (1 : Fin S198702x3x2.rank) _ _ (ix3 e (2 : Fin 3) c) 2 (by show 2 < 3; omega) S198702x1x2 (val_main_v182 (F := Ideal) x2 x3) rfl rfl 2 rfl
      (ix3 e (0 : Fin 1) c) (fun b hb => by
        match b with
        | ⟨0, _⟩ => rfl
        | ⟨1, _⟩ => exact (hb rfl).elim
        | ⟨2, _⟩ => rfl) rfl).trans ?_
    rw [val_main_v182_apply, show idx_main_v182 (ix3 e (0 : Fin 1) c) = ix2 e c from by
      funext a
      match a with
      | ⟨0, _⟩ => rfl
      | ⟨1, _⟩ => rfl, v179_at x2 x3 e X hX]
    rfl

include hX in
/-- The gradients of the three shape functions. -/
theorem v186_at (hd : det X ≠ 0) (k : Fin 3) (c : Fin 2) :
    val_main_v186 (F := Ideal) x2 x3 (ix3 e k c) = ((opp X k c * (1 / det X) : ℝ) : EReal) := by
  rw [val_main_v186_apply, v183_at x2 x3 e X hX, val_main_v185_apply, val_main_v184_apply]
  rw [show idx_main_v184 (idx_main_v185 (ix3 e k c)) = ix1 e from by funext a; match a with | ⟨0, _⟩ => rfl, v170_at x2 x3 e X hX hd]
  exact (EReal.coe_mul _ _).symm

end Cert.Geo

end
-- ==== Proof.Scatter.lean ====
/- Scatters and gathers of a vector or of the rows of a matrix, read at an index, at any extents: where an update
   lands, the histogram `zeros.at[idx].add(1)`, the set `x.at[idx].set(v)` and the row take `table[idx]`. -/
module

public import Idealize.ShloMosaic.Lib.Routing.Ops
public import Idealize.ShloMosaic.Lib.Routing.OpsPair
public import Idealize.ShloMosaic.Lib.Routing.OpsSet

@[expose] public section

noncomputable section

namespace Cert.Scat

open Idealize.ShloMosaic Idealize.ShloMosaic.ValueIdx Idealize.ShloMosaic.Routing

/-- One scalar update per index word, into a vector: `N` updates, `K` entries. -/
abbrev dims1 (K N : ℕ) (wf : ScatterDims.WF (shape1 K) (shape2 N 1) (shape1 N) [] [0] [0] 1) :
    ScatterDims (shape1 K) (shape2 N 1) (shape1 N) where
  updateWindowDims := []
  insertedWindowDims := [0]
  scatterDimsToOperandDims := [0]
  indexVectorDim := 1
  wf := wf

/-- Update `i` lands at entry `x` exactly when its index word, read signed, is `x`. -/
theorem lands1 {K N : ℕ} (wf : ScatterDims.WF (shape1 K) (shape2 N 1) (shape1 N) [] [0] [0] 1)
    (idx : IVec (shape2 N 1) 32) (i : Fin N) (x : Fin K) :
    (dims1 K N wf).resultIdx? (ix1 i) idx = some (ix1 x) ↔ (idx (ix2 i (0 : Fin 1))).toInt = (x.val : ℤ) := by
  rw [resultIdx?_ix1]
  have hwin : (dims1 K N wf).window (ix1 i) 0 = 0 := rfl
  have hsi : (dims1 K N wf).siIdx (ix1 i) ⟨0, Nat.one_pos⟩ = ix2 i (0 : Fin 1) := by
    funext b
    apply Fin.ext
    match b with
    | ⟨0, _⟩ => rfl
    | ⟨1, _⟩ => rfl
  have hst : (dims1 K N wf).start (ix1 i) idx 0 = (idx ((dims1 K N wf).siIdx (ix1 i) ⟨0, Nat.one_pos⟩)).toInt := rfl
  rw [hwin, hst, hsi]
  omega

/-- The same for index words that hold naturals below `2 ^ 31`. -/
theorem lands1_nat {K N : ℕ} (wf : ScatterDims.WF (shape1 K) (shape2 N 1) (shape1 N) [] [0] [0] 1)
    (idx : IVec (shape2 N 1) 32) (g : ℕ → ℕ) (hg : ∀ i : Fin N, idx (ix2 i (0 : Fin 1)) = BitVec.ofNat 32 (g i.val))
    (hb : ∀ i : Fin N, g i.val < 2 ^ 31) (i : Fin N) (x : Fin K) :
    (dims1 K N wf).resultIdx? (ix1 i) idx = some (ix1 x) ↔ g i.val = x.val := by
  rw [lands1, hg, StableHlo.Predicate.toInt_ofNat_small _ (hb i)]
  omega

/-- `zeros.at[idx].add(1)`: entry `x` counts the updates whose index is `x`. -/
theorem hist1 {K N : ℕ} (wf : ScatterDims.WF (shape1 K) (shape2 N 1) (shape1 N) [] [0] [0] 1)
    (x0 : IVec (shape1 K) 32) (hx0 : ∀ i, x0 i = 0#32)
    (idx : IVec (shape2 N 1) 32) (upd : IVec (shape1 N) 32) (hupd : ∀ i, upd i = 1#32) (g : ℕ → ℕ)
    (hg : ∀ i : Fin N, idx (ix2 i (0 : Fin 1)) = BitVec.ofNat 32 (g i.val)) (hb : ∀ i : Fin N, g i.val < 2 ^ 31) (x : Fin K) :
    Host.scatter (dims1 K N wf) IntOp.addi x0 idx upd (ix1 x) = BitVec.ofNat 32 (Nat.count (fun i => g i = x.val) N) := by
  unfold Host.scatter
  refine (foldl_count _ (ix1 x) (fun n => decide (g n.val = x.val)) (fun r n => ?_) _ x0 0 (hx0 _)).trans ?_
  · rw [symm1]
    have hi := lands1_nat wf idx g hg hb (n.cast (numel1 N)) x
    change _ ↔ g n.val = x.val at hi
    by_cases e : g n.val = x.val
    · rw [hi.2 e]
      dsimp only
      rw [if_pos rfl, hupd, if_pos (decide_eq_true e)]
    · rw [if_neg fun h => e (of_decide_eq_true h)]
      have hne := fun h => e (hi.1 h)
      generalize (dims1 K N wf).resultIdx? (ix1 (n.cast (numel1 N))) idx = o at hne
      cases o with
      | none => rfl
      | some k =>
        dsimp only
        rw [if_neg fun h : ix1 x = k => hne (congrArg some h.symm)]
  · rw [Nat.zero_add, countP_finRange _ (fun i => g i = x.val), numel1]

/-- `x0.at[idx].set(upd)` at an entry some update `k` lands at, the indices injective: that update. -/
theorem set1_hit {α : Type} {K N : ℕ} (wf : ScatterDims.WF (shape1 K) (shape2 N 1) (shape1 N) [] [0] [0] 1)
    (x0 : (shape1 K).Idx → α) (idx : IVec (shape2 N 1) 32) (upd : (shape1 N).Idx → α) (g : ℕ → ℕ)
    (hg : ∀ i : Fin N, idx (ix2 i (0 : Fin 1)) = BitVec.ofNat 32 (g i.val)) (hb : ∀ i : Fin N, g i.val < 2 ^ 31)
    (hinj : ∀ i j : Fin N, g i.val = g j.val → i = j) (x : Fin K) (k : Fin N) (hk : g k.val = x.val) :
    Host.scatter (dims1 K N wf) (fun _ b => b) x0 idx upd (ix1 x) = upd (ix1 k) := by
  refine scatter_set_hit _ x0 idx upd _ _ (fun j hj => ?_) (ix1 k) ((lands1_nat wf idx g hg hb k x).2 hk)
  obtain ⟨i, rfl⟩ : ∃ i : Fin N, j = ix1 i := ⟨j 0, eq_ix1 j⟩
  have := (lands1_nat wf idx g hg hb i x).1 hj
  rw [hinj i k (this.trans hk.symm)]

/-- `x0.at[idx].set(upd)` at an entry no update lands at: the operand. -/
theorem set1_miss {α : Type} {K N : ℕ} (wf : ScatterDims.WF (shape1 K) (shape2 N 1) (shape1 N) [] [0] [0] 1)
    (x0 : (shape1 K).Idx → α) (idx : IVec (shape2 N 1) 32) (upd : (shape1 N).Idx → α) (g : ℕ → ℕ)
    (hg : ∀ i : Fin N, idx (ix2 i (0 : Fin 1)) = BitVec.ofNat 32 (g i.val)) (hb : ∀ i : Fin N, g i.val < 2 ^ 31)
    (x : Fin K) (hx : ∀ k : Fin N, g k.val ≠ x.val) :
    Host.scatter (dims1 K N wf) (fun _ b => b) x0 idx upd (ix1 x) = x0 (ix1 x) := by
  refine scatter_set_miss _ x0 idx upd _ fun j hj => ?_
  obtain ⟨i, rfl⟩ : ∃ i : Fin N, j = ix1 i := ⟨j 0, eq_ix1 j⟩
  exact hx i ((lands1_nat wf idx g hg hb i x).1 hj)

/-- One row of `B` updates per index word, into a matrix's rows. -/
abbrev dimsR (R B N : ℕ) (wf : ScatterDims.WF (shape2 R B) (shape2 N 1) (shape2 N B) [1] [0] [0] 1) :
    ScatterDims (shape2 R B) (shape2 N 1) (shape2 N B) where
  updateWindowDims := [1]
  insertedWindowDims := [0]
  scatterDimsToOperandDims := [0]
  indexVectorDim := 1
  wf := wf

/-- Update `(i, y)` lands at `(r, c)` exactly when its row's index word, read signed, is `r`, and `y` is `c`. -/
theorem landsR {R B N : ℕ} (wf : ScatterDims.WF (shape2 R B) (shape2 N 1) (shape2 N B) [1] [0] [0] 1)
    (idx : IVec (shape2 N 1) 32) (i : Fin N) (y : Fin B) (r : Fin R) (c : Fin B) :
    (dimsR R B N wf).resultIdx? (ix2 i y) idx = some (ix2 r c) ↔ (idx (ix2 i (0 : Fin 1))).toInt = (r.val : ℤ) ∧ y = c := by
  rw [resultIdx?_ix2]
  have hwin : (dimsR R B N wf).window (ix2 i y) 0 = 0 := rfl
  have hwin1 : (dimsR R B N wf).window (ix2 i y) 1 = y.val := rfl
  have hsi : (dimsR R B N wf).siIdx (ix2 i y) ⟨0, Nat.one_pos⟩ = ix2 i (0 : Fin 1) := by
    funext b
    apply Fin.ext
    match b with
    | ⟨0, _⟩ => rfl
    | ⟨1, _⟩ => rfl
  have hst : (dimsR R B N wf).start (ix2 i y) idx 0 = (idx ((dimsR R B N wf).siIdx (ix2 i y) ⟨0, Nat.one_pos⟩)).toInt := rfl
  have hst1 : (dimsR R B N wf).start (ix2 i y) idx 1 = 0 := rfl
  rw [hwin, hst, hsi, hwin1, hst1, Fin.ext_iff]
  omega

/-- One scalar update per pair of index words, into a matrix. -/
abbrev dimsP (R C N : ℕ) (wf : ScatterDims.WF (shape2 R C) (shape2 N 2) (shape1 N) [] [0, 1] [0, 1] 1) :
    ScatterDims (shape2 R C) (shape2 N 2) (shape1 N) where
  updateWindowDims := []
  insertedWindowDims := [0, 1]
  scatterDimsToOperandDims := [0, 1]
  indexVectorDim := 1
  wf := wf

/-- Update `i` lands at `(r, c)` exactly when its two index words, read signed, are `r` and `c`. -/
theorem landsP {R C N : ℕ} (wf : ScatterDims.WF (shape2 R C) (shape2 N 2) (shape1 N) [] [0, 1] [0, 1] 1)
    (idx : IVec (shape2 N 2) 32) (i : Fin N) (r : Fin R) (c : Fin C) :
    (dimsP R C N wf).resultIdx? (ix1 i) idx = some (ix2 r c)
      ↔ (idx (ix2 i (0 : Fin 2))).toInt = (r.val : ℤ) ∧ (idx (ix2 i (1 : Fin 2))).toInt = (c.val : ℤ) := by
  rw [resultIdx?_ix2]
  have hwin : (dimsP R C N wf).window (ix1 i) 0 = 0 := rfl
  have hwin1 : (dimsP R C N wf).window (ix1 i) 1 = 0 := rfl
  have hsi : ∀ (q : Fin 2), (dimsP R C N wf).siIdx (ix1 i) q = ix2 i q := fun q => by
    funext b
    apply Fin.ext
    match b with
    | ⟨0, _⟩ => rfl
    | ⟨1, _⟩ => rfl
  have hst : (dimsP R C N wf).start (ix1 i) idx 0 = (idx ((dimsP R C N wf).siIdx (ix1 i) (0 : Fin 2))).toInt := rfl
  have hst1 : (dimsP R C N wf).start (ix1 i) idx 1 = (idx ((dimsP R C N wf).siIdx (ix1 i) (1 : Fin 2))).toInt := rfl
  rw [hwin, hst, hsi, hwin1, hst1, hsi]
  omega

/-- The rows of a matrix taken at a matrix of row numbers. -/
abbrev dimsG (R B E K : ℕ) (wf : GatherDims.WF (shape2 R B) (shape3 E K 1) (shape3 E K B) [2] [0] [] [0] [] 2 ![1, B]) :
    GatherDims (shape2 R B) (shape3 E K 1) (shape3 E K B) where
  offsetDims := [2]
  collapsedSliceDims := [0]
  operandBatchingDims := []
  startIndicesBatchingDims := []
  startIndexMap := [0]
  indexVectorDim := 2
  sliceSizes := ![1, B]
  wf := wf

/-- `table[idx]` at `(e, k, y)`, where `idx` holds the row number `b` at `(e, k)`: the table's entry `(b, y)`. -/
theorem takeRows {α : Type} {R B E K : ℕ}
    (wf : GatherDims.WF (shape2 R B) (shape3 E K 1) (shape3 E K B) [2] [0] [] [0] [] 2 ![1, B])
    (x : (shape2 R B).Idx → α) (idx : IVec (shape3 E K 1) 32) (e : Fin E) (k : Fin K) (y : Fin B) (b : Fin R)
    (hb : idx (ix3 e k (0 : Fin 1)) = BitVec.ofNat 32 b.val) (hR : R < 2 ^ 31) :
    Host.gather (dimsG R B E K wf) x idx (ix3 e k y) = x (ix2 b y) := by
  unfold Host.gather
  refine congrArg x (funext fun a => Fin.ext ?_)
  have hlt := b.isLt
  match a with
  | ⟨0, _⟩ =>
    have hsi : (dimsG R B E K wf).siIdx (ix3 e k y) ⟨0, Nat.one_pos⟩ = ix3 e k (0 : Fin 1) := by
      funext q
      apply Fin.ext
      match q with
      | ⟨0, _⟩ => rfl
      | ⟨1, _⟩ => rfl
      | ⟨2, _⟩ => rfl
    have hst : (dimsG R B E K wf).start (ix3 e k y) idx 0
        = min (idx ((dimsG R B E K wf).siIdx (ix3 e k y) ⟨0, Nat.one_pos⟩)).toInt.toNat (R - 1) := rfl
    show (dimsG R B E K wf).start (ix3 e k y) idx 0 + (dimsG R B E K wf).batchCoord (ix3 e k y) 0
      + (dimsG R B E K wf).offCoord (ix3 e k y) 0 = b.val
    have h0 : (dimsG R B E K wf).batchCoord (ix3 e k y) 0 = 0 := rfl
    have h1 : (dimsG R B E K wf).offCoord (ix3 e k y) 0 = 0 := rfl
    rw [h0, h1, hst, hsi, hb, StableHlo.Predicate.toInt_ofNat_small _ (by omega)]
    omega
  | ⟨1, _⟩ =>
    show (dimsG R B E K wf).start (ix3 e k y) idx 1 + (dimsG R B E K wf).batchCoord (ix3 e k y) 1
      + (dimsG R B E K wf).offCoord (ix3 e k y) 1 = y.val
    have h0 : (dimsG R B E K wf).batchCoord (ix3 e k y) 1 = 0 := rfl
    have h1 : (dimsG R B E K wf).offCoord (ix3 e k y) 1 = y.val := rfl
    have h2 : (dimsG R B E K wf).start (ix3 e k y) idx 1 = 0 := rfl
    rw [h0, h1, h2]
    omega

end Cert.Scat

end
-- ==== Proof.Count.lean ====
/- The counting behind the two lists of node components. Component `d` of the 250 by 400 by 2 grid of displacements is
   prescribed when it belongs to the first node of its row of 400: `d % 800 < 2`. Here: how many components up to `d` are
   prescribed, how many are free, and where the `k`-th of either kind stands. -/
module

public import Mathlib.Data.Nat.Count
public import Mathlib.Data.List.Basic
public import Mathlib.Algebra.BigOperators.Group.List.Basic

@[expose] public section

namespace Cert.Cnt

/-- How many prescribed components there are among `0, …, d`. -/
def upM (d : ℕ) : ℕ := 2 * (d / 800) + min 2 (d % 800 + 1)

/-- How many free components there are among `0, …, d`. -/
def upU (d : ℕ) : ℕ := 798 * (d / 800) + (d % 800 + 1 - 2)

/-- Where the `k`-th prescribed component stands. -/
def posM (k : ℕ) : ℕ := 800 * (k / 2) + k % 2

/-- Where the `k`-th free component stands. -/
def posU (k : ℕ) : ℕ := 800 * (k / 798) + k % 798 + 2

theorem sum_upM (d : ℕ) : ((List.range (d + 1)).map fun i => if i % 800 < 2 then 1 else 0).sum = upM d := by
  induction d with
  | zero => rfl
  | succ d ih =>
    rw [List.range_succ, List.map_append, List.sum_append, ih]
    simp only [List.map_cons, List.map_nil, List.sum_cons, List.sum_nil, Nat.add_zero, upM]
    split_ifs <;> omega

theorem sum_upU (d : ℕ) : ((List.range (d + 1)).map fun i => if i % 800 < 2 then 0 else 1).sum = upU d := by
  induction d with
  | zero => rfl
  | succ d ih =>
    rw [List.range_succ, List.map_append, List.sum_append, ih]
    simp only [List.map_cons, List.map_nil, List.sum_cons, List.sum_nil, Nat.add_zero, upU]
    split_ifs <;> omega

/-- A predicate that holds exactly below `M` is counted `min M N` times below `N`. -/
theorem count_lt (P : ℕ → Prop) [DecidablePred P] (M : ℕ) (h : ∀ i, P i ↔ i < M) (N : ℕ) : Nat.count P N = min M N := by
  induction N with
  | zero => simp
  | succ N ih =>
    rw [Nat.count_succ, ih]
    by_cases hp : P N
    · rw [if_pos hp]; have := (h N).1 hp; omega
    · rw [if_neg hp]; have : ¬ N < M := fun q => hp ((h N).2 q); omega

theorem count_upM {k : ℕ} (hk : k < 500) : Nat.count (fun i => upM i ≤ k) 200000 = posM k := by
  rw [count_lt _ (posM k) (fun i => by unfold upM posM; omega)]
  unfold posM
  omega

theorem count_upU {k : ℕ} (hk : k < 199500) : Nat.count (fun i => upU i ≤ k) 200000 = posU k := by
  rw [count_lt _ (posU k) (fun i => by unfold upU posU; omega)]
  unfold posU
  omega

theorem posM_lt {k : ℕ} (hk : k < 500) : posM k < 200000 := by unfold posM; omega
theorem posU_lt {k : ℕ} (hk : k < 199500) : posU k < 200000 := by unfold posU; omega
theorem posM_inj {k l : ℕ} (h : posM k = posM l) : k = l := by unfold posM at h; omega
theorem posU_inj {k l : ℕ} (h : posU k = posU l) : k = l := by unfold posU at h; omega
theorem posM_mod (k : ℕ) : posM k % 800 < 2 := by unfold posM; omega
theorem posU_mod (k : ℕ) : ¬ posU k % 800 < 2 := by unfold posU; omega
theorem posM_of {d : ℕ} (h : d % 800 < 2) : posM (2 * (d / 800) + d % 800) = d := by unfold posM; omega
theorem posU_of {d : ℕ} (h : ¬ d % 800 < 2) : posU (798 * (d / 800) + (d % 800 - 2)) = d := by unfold posU; omega

end Cert.Cnt
-- ==== Proof.Nonzero.lean ====
/- The reference's two lists of node components: the prescribed ones and the free ones, in order. -/
module

public import proofs.«01_k».proof.Proof.Gen.ReferenceIdeal.Read
public import proofs.«01_k».proof.Proof.Scatter
public import proofs.«01_k».proof.Proof.Count
public import Idealize.ShloMosaic.Lib.Routing.Words
public import Idealize.ShloMosaic.Lib.Routing.Count

@[expose] public section

set_option maxRecDepth 16384

noncomputable section

namespace Cert.Nonzero

open Cert.ReferenceIdeal Cert.ReferenceIdeal.Gen Cert.ReferenceIdeal.Read Cert.Scat Cert.Cnt
open Idealize.ShloMosaic Idealize.ShloMosaic.ValueIdx Idealize.ShloMosaic.Routing Idealize.ShloMosaic.WordCmp

variable (x4 : S250.Idx → BitVec 32) (hx4 : ∀ k : Fin 250, x4 (ix1 k) = BitVec.ofNat 32 (k.val * 400))

/-- The wrap of a negative index leaves a natural below `2 ^ 31`. -/
theorem wrap_nat (x a : BitVec 32) (n : ℕ) (hn : n < 2 ^ 31) (hx : x = BitVec.ofNat 32 n) :
    Scalar.select (IntOp.cmpi .slt x 0#32) a x = BitVec.ofNat 32 n := by
  rw [wrap_of_lt x a (by rw [hx, BitVec.toNat_ofNat, Nat.mod_eq_of_lt (by omega)]; exact hn), hx]

include hx4 in
theorem v6_at (k : Fin 250) : val_main_v6 (F := Ideal) x4 (ix2 k (0 : Fin 1)) = BitVec.ofNat 32 (k.val * 400) := by
  rw [val_main_v6_apply, show idx_main_v6 (ix2 k (0 : Fin 1)) = ix1 k from by funext a; match a with | ⟨0, _⟩ => rfl]
  have hk := k.isLt
  exact wrap_nat _ _ _ (by omega) (hx4 k)

include hx4 in
/-- The mask of the prescribed components. -/
theorem mask_at (d : Fin 200000) : val_main_v9 (F := Ideal) x4 (ix1 d) = BitVec.ofBool (decide (d.val % 800 < 2)) := by
  have hd := d.isLt
  have hi : idx_main_v9 (ix1 d) = ix2 (⟨d.val / 2, by omega⟩ : Fin 100000) (⟨d.val % 2, by omega⟩ : Fin 2) := by
    funext a
    match a with
    | ⟨0, _⟩ => rfl
    | ⟨1, _⟩ => rfl
  rw [val_main_v9_apply, hi]
  unfold val_main_v8
  have hl : ∀ (i : Fin 250) (y : Fin 2),
      scatter_S100000x2_S250x1_S250x2_1_0_0_1.resultIdx? (ix2 i y) (val_main_v6 (F := Ideal) x4)
        = some (ix2 (⟨d.val / 2, by omega⟩ : Fin 100000) (⟨d.val % 2, by omega⟩ : Fin 2))
      ↔ i.val * 400 = d.val / 2 ∧ y.val = d.val % 2 := fun i y => by
    have hi := i.isLt
    have := landsR (R := 100000) (B := 2) (N := 250) scatter_S100000x2_S250x1_S250x2_1_0_0_1_wf (val_main_v6 (F := Ideal) x4) i y
      (⟨d.val / 2, by omega⟩ : Fin 100000) (⟨d.val % 2, by omega⟩ : Fin 2)
    rw [v6_at x4 hx4, StableHlo.Predicate.toInt_ofNat_small _ (by omega), Fin.ext_iff] at this
    refine this.trans ?_
    constructor
    · rintro ⟨a, b⟩; exact ⟨by simpa using (by exact_mod_cast a), b⟩
    · rintro ⟨a, b⟩; exact ⟨by simp; exact_mod_cast a, b⟩
  by_cases h : d.val % 800 < 2
  · rw [decide_eq_true h]
    refine scatter_set_hit _ _ _ _ _ _ (fun _ _ => rfl) (ix2 (⟨d.val / 800, by omega⟩ : Fin 250) (⟨d.val % 2, by omega⟩ : Fin 2)) ((hl _ _).2 ⟨?_, rfl⟩)
    show d.val / 800 * 400 = d.val / 2
    omega
  · rw [decide_eq_false h]
    refine scatter_set_miss _ _ _ _ _ fun j hj => ?_
    obtain ⟨i, y, rfl⟩ : ∃ (i : Fin 250) (y : Fin 2), j = ix2 i y := ⟨j 0, j 1, eq_ix2 j⟩
    have := (hl i y).1 hj
    omega

include hx4 in
/-- The running count of the prescribed components. -/
theorem v10_at (d : Fin 200000) : val_main_v10 (F := Ideal) x4 (ix1 d) = BitVec.ofNat 32 (upM d.val) := by
  have hc : ∀ i : Fin 200000, val_main_call0_v0 (F := Ideal) x4 (ix1 i) = BitVec.ofNat 32 (if i.val % 800 < 2 then 1 else 0) := fun i => by
    rw [val_main_call0_v0_apply, mask_at x4 hx4, setWidth_ofBool]
  have h0 : val_main_call0_call0_v0 (F := Ideal) ix0 = 0#32 := rfl
  unfold val_main_v10
  rw [← sum_upM]
  generalize val_main_call0_v0 (F := Ideal) x4 = x at hc ⊢
  generalize val_main_call0_call0_v0 (F := Ideal) = z at h0 ⊢
  have key := cumsum1 (N := 200000) (Nm1 := 199999) (by norm_num) x (fun i => if i % 800 < 2 then 1 else 0) hc z h0
  exact key reduceWindows_S200000_S200000_w200000s1p199999_0 h_S_ d

include hx4 in
theorem v17_at (d : Fin 200000) : val_main_v17 (F := Ideal) x4 (ix2 d (0 : Fin 1)) = BitVec.ofNat 32 (upM d.val) := by
  rw [val_main_v17_apply, show idx_main_v17 (ix2 d (0 : Fin 1)) = ix1 d from by funext a; match a with | ⟨0, _⟩ => rfl]
  have hd := d.isLt
  rw [val_main_v16_apply, val_main_v13_apply, val_main_v12_apply, val_main_c_4_apply]
  exact wrap_nat _ _ _ (by unfold upM; omega) (v10_at x4 hx4 d)

include hx4 in
theorem v19_at (k : Fin 500) : val_main_v19 (F := Ideal) x4 (ix1 k) = BitVec.ofNat 32 (Nat.count (fun i => upM i = k.val) 200000) := by
  unfold val_main_v19
  exact hist1 (K := 500) (N := 200000) scatter_S500_S200000x1_S200000_n_0_0_1_wf _ (fun _ => rfl) _ _ (fun _ => rfl) upM (v17_at x4 hx4)
    (fun i => by have := i.isLt; unfold upM; omega) k

include hx4 in
theorem v20_at (k : Fin 500) : val_main_v20 (F := Ideal) x4 (ix1 k) = BitVec.ofNat 32 (posM k.val) := by
  unfold val_main_v20
  rw [← count_upM k.isLt, ← sum_count_eq upM k.val 200000]
  exact cumsum1 (N := 500) (Nm1 := 499) (by norm_num) _ (fun y => Nat.count (fun i => upM i = y) 200000) (v19_at x4 hx4) _ rfl _ _ k

include hx4 in
theorem v22_at (k : Fin 500) : val_main_v22 (F := Ideal) x4 (ix1 k) = BitVec.ofNat 32 (posM k.val) := by
  have hk := posM_lt k.isLt
  have e1 : val_main_v21 (F := Ideal) x4 (ix1 k) = BitVec.ofNat 32 (posM k.val / 1) :=
    pyDiv_ap bcast_S_S500 (val_main_v20 (F := Ideal) x4) (val_main_c_7 (F := Ideal)) (ix1 k) (v20_at x4 hx4 k) rfl (by omega) Nat.one_pos (by decide)
  have e2 : val_main_v22 (F := Ideal) x4 (ix1 k) = BitVec.ofNat 32 (posM k.val / 1 % 200000) :=
    pyRem_ap bcast_S_S500 (val_main_v21 (F := Ideal) x4) (val_main_c_8 (F := Ideal)) (ix1 k) e1 rfl (by omega) (by decide) (by decide)
  rw [e2, Nat.div_one, Nat.mod_eq_of_lt hk]

include hx4 in
theorem v24_at : val_main_v24 (F := Ideal) x4 ix0 = BitVec.ofNat 32 500 := by
  unfold val_main_v24
  refine (reduce_sum (N := 200000) _ (fun i => if i % 800 < 2 then 1 else 0) (fun i => ?_) _ _).trans ?_
  · show (val_main_v9 (F := Ideal) x4 (ix1 i)).setWidth 32 = _
    rw [mask_at x4 hx4, setWidth_ofBool]
  · rw [show (200000 : ℕ) = 199999 + 1 from rfl, sum_upM]; rfl

include hx4 in
/-- Entry `k` of the list of the prescribed components. -/
theorem v29_at (k : Fin 500) : val_main_v29 (F := Ideal) x4 (ix1 k) = BitVec.ofNat 32 (posM k.val) := by
  have hk := k.isLt
  rw [val_main_v29_apply, v22_at x4 hx4, val_main_v28_apply, val_main_v27_apply, val_main_v25_apply]
  rw [show val_main_v24 (F := Ideal) x4 _ = BitVec.ofNat 32 500 from (congrArg _ (eq_ix0 _)).trans (v24_at x4 hx4)]
  show Scalar.select (IntOp.cmpi .sge (BitVec.ofNat 32 k.val) (BitVec.ofNat 32 500)) _ _ = _
  rw [cmpi_sge_ofNat (w := 32) (by omega) (by decide), select_decide, if_neg (by omega)]

include hx4 in
/-- The running count of the free components. -/
theorem v31_at (d : Fin 200000) : val_main_v31 (F := Ideal) x4 (ix1 d) = BitVec.ofNat 32 (upU d.val) := by
  have hc : ∀ i : Fin 200000, val_main_call5_v0 (F := Ideal) x4 (ix1 i) = BitVec.ofNat 32 (if i.val % 800 < 2 then 0 else 1) := fun i => by
    rw [val_main_call5_v0_apply, val_main_v30_apply, mask_at x4 hx4]
    by_cases h : i.val % 800 < 2
    · rw [decide_eq_true h, if_pos h]; rfl
    · rw [decide_eq_false h, if_neg h]; rfl
  have h0 : val_main_call5_call0_v0 (F := Ideal) ix0 = 0#32 := rfl
  unfold val_main_v31
  rw [← sum_upU]
  generalize val_main_call5_v0 (F := Ideal) x4 = x at hc ⊢
  generalize val_main_call5_call0_v0 (F := Ideal) = z at h0 ⊢
  have key := cumsum1 (N := 200000) (Nm1 := 199999) (by norm_num) x (fun i => if i % 800 < 2 then 0 else 1) hc z h0
  exact key reduceWindows_S200000_S200000_w200000s1p199999_0 h_S_ d

include hx4 in
theorem v38_at (d : Fin 200000) : val_main_v38 (F := Ideal) x4 (ix2 d (0 : Fin 1)) = BitVec.ofNat 32 (upU d.val) := by
  rw [val_main_v38_apply, show idx_main_v38 (ix2 d (0 : Fin 1)) = ix1 d from by funext a; match a with | ⟨0, _⟩ => rfl]
  have hd := d.isLt
  rw [val_main_v37_apply, val_main_v34_apply, val_main_v33_apply, val_main_c_12_apply]
  exact wrap_nat _ _ _ (by unfold upU; omega) (v31_at x4 hx4 d)

include hx4 in
theorem v40_at (k : Fin 199500) : val_main_v40 (F := Ideal) x4 (ix1 k) = BitVec.ofNat 32 (Nat.count (fun i => upU i = k.val) 200000) := by
  unfold val_main_v40
  exact hist1 (K := 199500) (N := 200000) scatter_S199500_S200000x1_S200000_n_0_0_1_wf _ (fun _ => rfl) _ _ (fun _ => rfl) upU (v38_at x4 hx4)
    (fun i => by have := i.isLt; unfold upU; omega) k

include hx4 in
theorem v41_at (k : Fin 199500) : val_main_v41 (F := Ideal) x4 (ix1 k) = BitVec.ofNat 32 (posU k.val) := by
  have hc := v40_at x4 hx4
  have h0 : val_main_call6_call0_v0 (F := Ideal) ix0 = 0#32 := rfl
  unfold val_main_v41
  rw [← count_upU k.isLt, ← sum_count_eq upU k.val 200000]
  generalize val_main_v40 (F := Ideal) x4 = x at hc ⊢
  generalize val_main_call6_call0_v0 (F := Ideal) = z at h0 ⊢
  have key := cumsum1 (N := 199500) (Nm1 := 199499) (by norm_num) x (fun y => Nat.count (fun i => upU i = y) 200000) hc z h0
  exact key reduceWindows_S199500_S199500_w199500s1p199499_0 h_S_ k

include hx4 in
theorem v43_at (k : Fin 199500) : val_main_v43 (F := Ideal) x4 (ix1 k) = BitVec.ofNat 32 (posU k.val) := by
  have hk := posU_lt k.isLt
  have e1 : val_main_v42 (F := Ideal) x4 (ix1 k) = BitVec.ofNat 32 (posU k.val / 1) :=
    pyDiv_ap bcast_S_S199500 (val_main_v41 (F := Ideal) x4) (val_main_c_15 (F := Ideal)) (ix1 k) (v41_at x4 hx4 k) rfl (by omega) Nat.one_pos (by decide)
  have e2 : val_main_v43 (F := Ideal) x4 (ix1 k) = BitVec.ofNat 32 (posU k.val / 1 % 200000) :=
    pyRem_ap bcast_S_S199500 (val_main_v42 (F := Ideal) x4) (val_main_c_16 (F := Ideal)) (ix1 k) e1 rfl (by omega) (by decide) (by decide)
  rw [e2, Nat.div_one, Nat.mod_eq_of_lt hk]

include hx4 in
theorem v45_at : val_main_v45 (F := Ideal) x4 ix0 = BitVec.ofNat 32 199500 := by
  have hc : ∀ i : Fin 200000, val_main_v44 (F := Ideal) x4 (ix1 i) = BitVec.ofNat 32 (if i.val % 800 < 2 then 0 else 1) := fun i => by
    rw [val_main_v44_apply, val_main_v30_apply, mask_at x4 hx4]
    by_cases h : i.val % 800 < 2
    · rw [decide_eq_true h, if_pos h]; rfl
    · rw [decide_eq_false h, if_neg h]; rfl
  unfold val_main_v45
  generalize val_main_v44 (F := Ideal) x4 = x at hc ⊢
  refine (reduce_sum (N := 200000) x (fun i => if i % 800 < 2 then 0 else 1) hc _ _).trans ?_
  rw [show (200000 : ℕ) = 199999 + 1 from rfl, sum_upU]; rfl

include hx4 in
/-- Entry `k` of the list of the free components. -/
theorem v50_at (k : Fin 199500) : val_main_v50 (F := Ideal) x4 (ix1 k) = BitVec.ofNat 32 (posU k.val) := by
  have hk := k.isLt
  rw [val_main_v50_apply, v43_at x4 hx4, val_main_v49_apply, val_main_v48_apply, val_main_v46_apply]
  rw [show val_main_v45 (F := Ideal) x4 _ = BitVec.ofNat 32 199500 from (congrArg _ (eq_ix0 _)).trans (v45_at x4 hx4)]
  show Scalar.select (IntOp.cmpi .sge (BitVec.ofNat 32 k.val) (BitVec.ofNat 32 199500)) _ _ = _
  rw [cmpi_sge_ofNat (w := 32) (by omega) (by decide), select_decide, if_neg (by omega)]

end Cert.Nonzero

end
-- ==== Proof.Field.lean ====
/- The displacement field that the reference assembles: prescribed on the left edge, free elsewhere. -/
module

public import proofs.«01_k».proof.Proof.Nonzero
public import proofs.«01_k».proof.Proof.Consts
public import Idealize.ShloMosaic.Lib.Pipeline.Value
public import Idealize.ShloMosaic.PureOps.Ideal.Laws

@[expose] public section

set_option maxRecDepth 16384

noncomputable section

namespace Cert.Field

open Cert.ReferenceIdeal Cert.ReferenceIdeal.Gen Cert.ReferenceIdeal.Read Cert.Scat Cert.Cnt Cert.Nonzero
open Idealize.ShloMosaic Idealize.ShloMosaic.ValueIdx Idealize.ShloMosaic.Routing Idealize.ShloMosaic.WordCmp

/-- The prescribed first displacement of the left edge at time `t`. -/
def pull (t : EReal) : EReal := Scalar.mulf (F := Ideal) (φ := .f32) (Scalar.ofBits .f32 0x3DCCCCCD#32) t

/-- Component `d` of the displacement field, from the prescribed value and the free components. -/
def fld (w : EReal) (u : S199500.Idx → EReal) (d : ℕ) : EReal :=
  if d % 800 = 0 then w else if d % 800 = 1 then 0
    else if h : 798 * (d / 800) + (d % 800 - 2) < 199500 then u (ix1 ⟨798 * (d / 800) + (d % 800 - 2), h⟩) else 0

variable (x0 : S199500.Idx → EReal) (x1 : S1.Idx → EReal) (x4 : S250.Idx → BitVec 32)
  (hx4 : ∀ k : Fin 250, x4 (ix1 k) = BitVec.ofNat 32 (k.val * 400))

theorem v52_at (i : S_.Idx) : val_main_v52 (F := Ideal) x1 i = pull (x1 (ix1 (0 : Fin 1))) := by
  rw [val_main_v52_apply]
  have : val_main_v51 (F := Ideal) x1 i = x1 (ix1 (0 : Fin 1)) := by
    unfold val_main_v51
    exact shapeCast_apply x1 _ i (ix1 (0 : Fin 1)) (by
      have h1 := (S_.rowMajor i).isLt
      have h2 : S_.numel = 1 := rfl
      rw [Shape.rowMajor_val_one]
      show 0 = (S_.rowMajor i).val
      omega)
  rw [this]
  rfl

include hx4 in
theorem v61_at (k : Fin 250) : val_main_v61 (F := Ideal) x4 (ix2 k (0 : Fin 1)) = BitVec.ofNat 32 (k.val * 400) := by
  rw [val_main_v61_apply, show idx_main_v61 (ix2 k (0 : Fin 1)) = ix1 k from by funext a; match a with | ⟨0, _⟩ => rfl]
  have hk := k.isLt
  exact wrap_nat _ _ _ (by omega) (hx4 k)

include hx4 in
theorem v73_at (k : Fin 250) : val_main_v73 (F := Ideal) x4 (ix2 k (0 : Fin 1)) = BitVec.ofNat 32 (k.val * 400) := by
  rw [val_main_v73_apply, show idx_main_v73 (ix2 k (0 : Fin 1)) = ix1 k from by funext a; match a with | ⟨0, _⟩ => rfl]
  have hk := k.isLt
  exact wrap_nat _ _ _ (by omega) (hx4 k)

/-- Two columns put side by side, read in the first. -/
theorem pair_left {α : Type} {n : ℕ} (x y : (shape2 n 1).Idx → α) (h : Shape.Concatenates [shape2 n 1, shape2 n 1] (shape2 n 2) 1) (k : Fin n) :
    concatenate (shape2 n 2) 1 [⟨shape2 n 1, x⟩, ⟨shape2 n 1, y⟩] h (ix2 k (0 : Fin 2)) = x (ix2 k (0 : Fin 1)) :=
  concatenate_pair_apply_left 1 x y h _ rfl _ fun b => by
    match b with
    | ⟨0, _⟩ => rfl
    | ⟨1, _⟩ => rfl

/-- Two columns put side by side, read in the second. -/
theorem pair_right {α : Type} {n : ℕ} (x y : (shape2 n 1).Idx → α) (h : Shape.Concatenates [shape2 n 1, shape2 n 1] (shape2 n 2) 1) (k : Fin n) :
    concatenate (shape2 n 2) 1 [⟨shape2 n 1, x⟩, ⟨shape2 n 1, y⟩] h (ix2 k (1 : Fin 2)) = y (ix2 k (0 : Fin 1)) :=
  concatenate_pair_apply_right 1 x y h _ rfl rfl _ (fun b hb => by
    match b with
    | ⟨0, _⟩ => rfl
    | ⟨1, _⟩ => exact (hb rfl).elim) rfl

include hx4 in
/-- Where an update of the first prescribed component lands. -/
theorem lands65 (k : Fin 250) (r : Fin 100000) (c : Fin 2) :
    scatter_S100000x2_S250x2_S250_n_01_01_1.resultIdx? (ix1 k) (val_main_v63 (F := Ideal) x4) = some (ix2 r c)
      ↔ k.val * 400 = r.val ∧ c.val = 0 := by
  have hk := k.isLt
  refine (landsP (R := 100000) (C := 2) (N := 250) scatter_S100000x2_S250x2_S250_n_01_01_1_wf (val_main_v63 (F := Ideal) x4) k r c).trans ?_
  have e0 : val_main_v63 (F := Ideal) x4 (ix2 k (0 : Fin 2)) = BitVec.ofNat 32 (k.val * 400) :=
    (pair_left (n := 250) _ _ concatenates_S250x1_S250x1_S250x2_d1 k).trans (v61_at x4 hx4 k)
  have e1 : val_main_v63 (F := Ideal) x4 (ix2 k (1 : Fin 2)) = BitVec.ofNat 32 0 :=
    (pair_right (n := 250) _ _ concatenates_S250x1_S250x1_S250x2_d1 k).trans rfl
  rw [e0, e1, StableHlo.Predicate.toInt_ofNat_small _ (by omega), StableHlo.Predicate.toInt_ofNat_small _ (by decide)]
  omega

include hx4 in
/-- Where an update of the second prescribed component lands. -/
theorem lands77 (k : Fin 250) (r : Fin 100000) (c : Fin 2) :
    scatter_S100000x2_S250x2_S250_n_01_01_1.resultIdx? (ix1 k) (val_main_v75 (F := Ideal) x4) = some (ix2 r c)
      ↔ k.val * 400 = r.val ∧ c.val = 1 := by
  have hk := k.isLt
  refine (landsP (R := 100000) (C := 2) (N := 250) scatter_S100000x2_S250x2_S250_n_01_01_1_wf (val_main_v75 (F := Ideal) x4) k r c).trans ?_
  have e0 : val_main_v75 (F := Ideal) x4 (ix2 k (0 : Fin 2)) = BitVec.ofNat 32 (k.val * 400) :=
    (pair_left (n := 250) _ _ concatenates_S250x1_S250x1_S250x2_d1 k).trans (v73_at x4 hx4 k)
  have e1 : val_main_v75 (F := Ideal) x4 (ix2 k (1 : Fin 2)) = BitVec.ofNat 32 1 :=
    (pair_right (n := 250) _ _ concatenates_S250x1_S250x1_S250x2_d1 k).trans rfl
  rw [e0, e1, StableHlo.Predicate.toInt_ofNat_small _ (by omega), StableHlo.Predicate.toInt_ofNat_small _ (by decide)]
  omega

include hx4 in
/-- The prescribed field on the left edge. -/
theorem v77_at (k : Fin 250) (r : Fin 100000) (hr : k.val * 400 = r.val) (c : Fin 2) :
    val_main_v77 (F := Ideal) x1 x4 (ix2 r c) = if c.val = 0 then pull (x1 (ix1 (0 : Fin 1))) else 0 := by
  have hc := c.isLt
  unfold val_main_v77
  by_cases h : c.val = 0
  · rw [if_pos h]
    refine (scatter_set_miss _ _ _ _ _ fun j hj => ?_).trans ?_
    · obtain ⟨i, rfl⟩ : ∃ i : Fin 250, j = ix1 i := ⟨j 0, eq_ix1 j⟩
      have := ((lands77 x4 hx4 i r c).1 hj).2
      omega
    · unfold val_main_v65
      refine scatter_set_hit _ _ _ _ _ _ (fun j _ => ?_) (ix1 k) ((lands65 x4 hx4 k r c).2 ⟨hr, h⟩)
      rw [val_main_v64_apply, v52_at]
  · rw [if_neg h]
    refine scatter_set_hit _ _ _ _ _ _ (fun j _ => ?_) (ix1 k) ((lands77 x4 hx4 k r c).2 ⟨hr, by omega⟩)
    rw [val_main_v76_apply]
    exact Cert.Con.b_zero

include hx4 in
theorem v84_at (k : Fin 500) : val_main_v84 (F := Ideal) x4 (ix2 k (0 : Fin 1)) = BitVec.ofNat 32 (posM k.val) := by
  rw [val_main_v84_apply, show idx_main_v84 (ix2 k (0 : Fin 1)) = ix1 k from by funext a; match a with | ⟨0, _⟩ => rfl]
  have hk := posM_lt k.isLt
  rw [val_main_v83_apply, val_main_v80_apply, val_main_v79_apply, val_main_c_27_apply]
  exact wrap_nat _ _ _ (by omega) (v29_at x4 hx4 k)

include hx4 in
theorem v99_at (k : Fin 500) : val_main_v99 (F := Ideal) x4 (ix2 k (0 : Fin 1)) = BitVec.ofNat 32 (posM k.val) := by
  rw [val_main_v99_apply, show idx_main_v99 (ix2 k (0 : Fin 1)) = ix1 k from by funext a; match a with | ⟨0, _⟩ => rfl]
  have hk := posM_lt k.isLt
  rw [val_main_v98_apply, val_main_v95_apply, val_main_v94_apply, val_main_c_32_apply]
  exact wrap_nat _ _ _ (by omega) (v29_at x4 hx4 k)

include hx4 in
theorem v92_at (k : Fin 199500) : val_main_v92 (F := Ideal) x4 (ix2 k (0 : Fin 1)) = BitVec.ofNat 32 (posU k.val) := by
  rw [val_main_v92_apply, show idx_main_v92 (ix2 k (0 : Fin 1)) = ix1 k from by funext a; match a with | ⟨0, _⟩ => rfl]
  have hk := posU_lt k.isLt
  rw [val_main_v91_apply, val_main_v88_apply, val_main_v87_apply, val_main_c_30_apply]
  exact wrap_nat _ _ _ (by omega) (v50_at x4 hx4 k)

include hx4 in
/-- The prescribed components, in order. -/
theorem v85_at (k : Fin 500) : val_main_v85 (F := Ideal) x1 x4 (ix1 k) = if k.val % 2 = 0 then pull (x1 (ix1 (0 : Fin 1))) else 0 := by
  have hk := k.isLt
  have hp := posM_lt hk
  unfold val_main_v85
  rw [gather_take1 (N := 200000) (n := 500) gather_S200000_S500x1_S500_n_0_n_n_0_1_1 rfl rfl rfl rfl _ _ k ⟨posM k.val, hp⟩ (v84_at x4 hx4 k) (by norm_num)]
  rw [val_main_v78_apply]
  have hi : idx_main_v78 (ix1 (⟨posM k.val, hp⟩ : Fin 200000)) = ix2 (⟨posM k.val / 2, by omega⟩ : Fin 100000) (⟨posM k.val % 2, by omega⟩ : Fin 2) := by
    funext a
    match a with
    | ⟨0, _⟩ => rfl
    | ⟨1, _⟩ => rfl
  rw [hi, v77_at x1 x4 hx4 (⟨k.val / 2, by omega⟩ : Fin 250) _ (by show k.val / 2 * 400 = posM k.val / 2; unfold posM; omega)]
  have : posM k.val % 2 = k.val % 2 := by unfold posM; omega
  show (if posM k.val % 2 = 0 then _ else _) = _
  rw [this]

include hx4 in
/-- The assembled field, flat. -/
theorem v100_at (d : Fin 200000) : val_main_v100 (F := Ideal) x0 x1 x4 (ix1 d) = fld (pull (x1 (ix1 (0 : Fin 1)))) x0 d.val := by
  have hd := d.isLt
  have hbM : ∀ i : Fin 500, posM i.val < 2 ^ 31 := fun i => by have := posM_lt i.isLt; omega
  have hbU : ∀ i : Fin 199500, posU i.val < 2 ^ 31 := fun i => by have := posU_lt i.isLt; omega
  unfold val_main_v100 fld
  by_cases h : d.val % 800 < 2
  · have e := set1_hit (K := 200000) (N := 500) scatter_S200000_S500x1_S500_n_0_0_1_wf (val_main_v93 (F := Ideal) x0 x4) _ (val_main_v85 (F := Ideal) x1 x4) posM (v99_at x4 hx4)
      hbM (fun i j h => Fin.ext (posM_inj h)) d ⟨2 * (d.val / 800) + d.val % 800, by omega⟩ (posM_of h)
    refine e.trans ?_
    rw [v85_at x1 x4 hx4]
    show (if (2 * (d.val / 800) + d.val % 800) % 2 = 0 then _ else _) = _
    by_cases h0 : d.val % 800 = 0
    · rw [if_pos (by omega), if_pos h0]
    · rw [if_neg (by omega), if_neg h0, if_pos (by omega)]
  · have e := set1_miss (K := 200000) (N := 500) scatter_S200000_S500x1_S500_n_0_0_1_wf (val_main_v93 (F := Ideal) x0 x4) _ (val_main_v85 (F := Ideal) x1 x4) posM (v99_at x4 hx4)
      hbM d (fun k hk => h (by rw [← hk]; exact posM_mod _))
    refine e.trans ?_
    unfold val_main_v93
    have hlt : 798 * (d.val / 800) + (d.val % 800 - 2) < 199500 := by omega
    have e' := set1_hit (K := 200000) (N := 199500) scatter_S200000_S199500x1_S199500_n_0_0_1_wf (val_main_v86 (F := Ideal)) _ x0 posU (v92_at x4 hx4)
      hbU (fun i j h => Fin.ext (posU_inj h)) d ⟨798 * (d.val / 800) + (d.val % 800 - 2), hlt⟩ (posU_of h)
    refine e'.trans ?_
    rw [if_neg (by omega), if_neg (by omega), dif_pos hlt]

include hx4 in
/-- The assembled field at node `n`, component `c`. -/
theorem v101_at (n : Fin 100000) (c : Fin 2) :
    val_main_v101 (F := Ideal) x0 x1 x4 (ix2 n c) = fld (pull (x1 (ix1 (0 : Fin 1)))) x0 (n.val * 2 + c.val) := by
  have hn := n.isLt
  have hc := c.isLt
  rw [val_main_v101_apply, show idx_main_v101 (ix2 n c) = ix1 (⟨n.val * 2 + c.val, by omega⟩ : Fin 200000) from by
    funext a; match a with | ⟨0, _⟩ => rfl]
  exact v100_at x0 x1 x4 hx4 _

end Cert.Field

end
-- ==== Proof.RefTri.lean ====
/- The reference's energy of one triangle, from its corners' coordinates and displacements. -/
module

public import proofs.«01_k».proof.Proof.Geo
public import proofs.«01_k».proof.Proof.Tri
public import proofs.«01_k».proof.Proof.Field
public import proofs.«01_k».proof.Proof.Mesh

@[expose] public section

set_option maxRecDepth 16384

noncomputable section

namespace Cert.RefTri

open Cert.ReferenceIdeal Cert.ReferenceIdeal.Gen Cert.ReferenceIdeal.Read Cert.Con Cert.Geo Cert.Tri Cert.Scat Cert.Nonzero Cert.Field
open Idealize.ShloMosaic Idealize.ShloMosaic.ValueIdx

variable (x0 : S199500.Idx → EReal) (x1 : S1.Idx → EReal) (x2 : S100000x2.Idx → EReal) (x3 : S198702x3.Idx → BitVec 32)
  (x4 : S250.Idx → BitVec 32) (e : Fin 198702)

/-- Corner `k` of triangle `e`, looked up in the coordinates. -/
theorem v108_at (k : Fin 3) (c : Fin 2) (n : Fin 100000) (hn : x3 (ix2 e k) = BitVec.ofNat 32 n.val) :
    val_main_v108 (F := Ideal) x2 x3 (ix3 e k c) = x2 (ix2 n c) := by
  have hlt := n.isLt
  unfold val_main_v108
  refine takeRows (R := 100000) (B := 2) (E := 198702) (K := 3) gather_S100000x2_S198702x3x1_S198702x3x2_2_0_n_n_0_2_12_wf x2 _ e k c n ?_ (by norm_num)
  rw [val_main_v107_apply, show idx_main_v107 (ix3 e k (0 : Fin 1)) = ix2 e k from by
    funext a
    match a with
    | ⟨0, _⟩ => rfl
    | ⟨1, _⟩ => rfl]
  exact wrap_nat _ _ _ (by omega) hn

/-- Corner `k` of triangle `e`, looked up in the displacements. -/
theorem v115_at (k : Fin 3) (c : Fin 2) (n : Fin 100000) (hn : x3 (ix2 e k) = BitVec.ofNat 32 n.val) :
    val_main_v115 (F := Ideal) x0 x1 x3 x4 (ix3 e k c) = val_main_v101 (F := Ideal) x0 x1 x4 (ix2 n c) := by
  have hlt := n.isLt
  unfold val_main_v115
  refine takeRows (R := 100000) (B := 2) (E := 198702) (K := 3) gather_S100000x2_S198702x3x1_S198702x3x2_2_0_n_n_0_2_12_wf _ _ e k c n ?_ (by norm_num)
  rw [val_main_v114_apply, show idx_main_v114 (ix3 e k (0 : Fin 1)) = ix2 e k from by
    funext a
    match a with
    | ⟨0, _⟩ => rfl
    | ⟨1, _⟩ => rfl]
  exact wrap_nat _ _ _ (by omega) hn

/-- Entry `(a, b)` of the displacement gradient: the derivative of component `a` along axis `b`. -/
def grad (X : Fin 3 → Fin 2 → ℝ) (U : Fin 3 → Fin 2 → EReal) (a b : Fin 2) : EReal :=
  ∑ k : Fin 3, U k a * ((opp X k b * (1 / det X) : ℝ) : EReal)

variable (X : Fin 3 → Fin 2 → ℝ) (hX : ∀ k c, val_main_v108 (F := Ideal) x2 x3 (ix3 e k c) = ((X k c : ℝ) : EReal))
  (hd : det X ≠ 0) (U : Fin 3 → Fin 2 → EReal) (hU : ∀ k a, val_main_v115 (F := Ideal) x0 x1 x3 x4 (ix3 e k a) = U k a)

include hX hd hU in
theorem v187_at (a b : Fin 2) : val_main_v187 (F := Ideal) x0 x1 x2 x3 x4 (ix3 e a b) = grad X U a b := by
  rw [val_main_v187_apply]
  unfold grad
  refine Finset.sum_congr rfl fun k _ => ?_
  rw [show lidx_main_v187 (ix3 e a b) k = ix3 e k a from by
      funext q
      match q with
      | ⟨0, _⟩ => rfl
      | ⟨1, _⟩ => rfl
      | ⟨2, _⟩ => rfl,
    show ridx_main_v187 (ix3 e a b) k = ix3 e k b from by
      funext q
      match q with
      | ⟨0, _⟩ => rfl
      | ⟨1, _⟩ => rfl
      | ⟨2, _⟩ => rfl, hU, v186_at x2 x3 e X hX hd]

include hX hd hU in
/-- The symmetric part of the gradient. -/
theorem v191_at (a b : Fin 2) : val_main_v191 (F := Ideal) x0 x1 x2 x3 x4 (ix3 e a b)
    = (Scalar.ofBits (F := Ideal) .f32 0x3F000000#32 : EReal) * (grad X U a b + grad X U b a) := by
  rw [val_main_v191_apply, val_main_v189_apply, val_main_v188_apply, val_main_v190_apply, val_main_cst_41_apply,
    show idx_main_v188 (ix3 e a b) = ix3 e b a from by
      funext q
      match q with
      | ⟨0, _⟩ => rfl
      | ⟨1, _⟩ => rfl
      | ⟨2, _⟩ => rfl, v187_at x0 x1 x2 x3 x4 e X hX hd U hU, v187_at x0 x1 x2 x3 x4 e X hX hd U hU]
  rfl

include hX hd hU in
/-- The trace of the symmetric part. -/
theorem v196_at : val_main_v196 (F := Ideal) x0 x1 x2 x3 x4 (ix1 e)
    = (Scalar.ofBits (F := Ideal) .f32 0x3F000000#32 : EReal) * (grad X U 0 0 + grad X U 0 0)
      + (Scalar.ofBits (F := Ideal) .f32 0x3F000000#32 : EReal) * (grad X U 1 1 + grad X U 1 1) := by
  rw [val_main_v196_apply, val_main_v193_apply, val_main_v192_apply, val_main_v195_apply, val_main_v194_apply,
    show idx_main_v192 (idx_main_v193 (ix1 e)) = ix3 e (0 : Fin 2) (0 : Fin 2) from by
      funext q
      match q with
      | ⟨0, _⟩ => exact Fin.ext (Nat.div_one _)
      | ⟨1, _⟩ => rfl
      | ⟨2, _⟩ => rfl,
    show idx_main_v194 (idx_main_v195 (ix1 e)) = ix3 e (1 : Fin 2) (1 : Fin 2) from by
      funext q
      match q with
      | ⟨0, _⟩ => exact Fin.ext (Nat.div_one _)
      | ⟨1, _⟩ => rfl
      | ⟨2, _⟩ => rfl, v191_at x0 x1 x2 x3 x4 e X hX hd U hU, v191_at x0 x1 x2 x3 x4 e X hX hd U hU]
  rfl

include hX hd hU in
/-- The sum of the squared entries of the symmetric part. -/
theorem v201_at : val_main_v201 (F := Ideal) x0 x1 x2 x3 x4 (ix1 e)
    = ∑ a : Fin 2, ∑ b : Fin 2, ((Scalar.ofBits (F := Ideal) .f32 0x3F000000#32 : EReal) * (grad X U a b + grad X U b a))
      * ((Scalar.ofBits (F := Ideal) .f32 0x3F000000#32 : EReal) * (grad X U a b + grad X U b a)) := by
  have h := sum_block (E := 198702) reducesTo_S198702x2x2_S198702_d1_2 (val_main_v200 (F := Ideal) x0 x1 x2 x3 x4)
    (val_main_cst_43 (F := Ideal) (Shape.Idx.first h_S_)) e
  have h0 : val_main_cst_43 (F := Ideal) (Shape.Idx.first h_S_) = 0 := b_zero
  rw [h0, zero_add] at h
  refine Eq.trans ?_ (h.trans ?_)
  · unfold val_main_v201
    simp only [Host.reduceAdd, Ideal.hostReduceAdd_def]
    rw [h0]
  · refine Finset.sum_congr rfl fun a _ => Finset.sum_congr rfl fun b _ => ?_
    rw [val_main_v200_apply, v191_at x0 x1 x2 x3 x4 e X hX hd U hU]
    rfl

include hX hd hU in
/-- The energy of triangle `e`. -/
theorem v205_at : val_main_v205 (F := Ideal) x0 x1 x2 x3 x4 (ix1 e)
    = dens (grad X U 0 0) (grad X U 1 1) (grad X U 0 1 + grad X U 1 0) * ((1 / 2 * det X : ℝ) : EReal) := by
  rw [val_main_v205_apply, val_main_v204_apply, val_main_v199_apply, val_main_v198_apply, val_main_v203_apply,
    val_main_v197_apply, val_main_cst_42_apply, val_main_v202_apply, val_main_cst_44_apply,
    v136_at x2 x3 e X hX, v196_at x0 x1 x2 x3 x4 e X hX hd U hU, v201_at x0 x1 x2 x3 x4 e X hX hd U hU]
  refine congrArg (· * _) ?_
  rw [← strain (grad X U 0 0) (grad X U 0 1) (grad X U 1 0) (grad X U 1 1) _ b_half, ← b_lam, ← b_mu]
  simp only [Fin.sum_univ_two]
  rfl

/-- The corners of the lower triangle of cell `(j, i)`. -/
def lower (j i : ℕ) : Fin 3 → Fin 2 → ℝ :=
  ![![4 * (i : ℝ) / 399, (j : ℝ) / 249], ![4 * ((i + 1 : ℕ) : ℝ) / 399, (j : ℝ) / 249], ![4 * ((i + 1 : ℕ) : ℝ) / 399, ((j + 1 : ℕ) : ℝ) / 249]]

/-- The corners of the upper triangle of cell `(j, i)`. -/
def upper (j i : ℕ) : Fin 3 → Fin 2 → ℝ :=
  ![![4 * (i : ℝ) / 399, (j : ℝ) / 249], ![4 * ((i + 1 : ℕ) : ℝ) / 399, ((j + 1 : ℕ) : ℝ) / 249], ![4 * (i : ℝ) / 399, ((j + 1 : ℕ) : ℝ) / 249]]

theorem det_lower (j i : ℕ) : det (lower j i) = 4 / 99351 := by
  simp [det, lower]; ring

theorem det_upper (j i : ℕ) : det (upper j i) = 4 / 99351 := by
  simp [det, upper]; ring

theorem grad_lower (j i : ℕ) (U : Fin 3 → Fin 2 → EReal) (a : Fin 2) :
    grad (lower j i) U a 0 = (U 1 a - U 0 a) * ((399 / 4 : ℝ) : EReal) ∧ grad (lower j i) U a 1 = (U 2 a - U 1 a) * ((249 : ℝ) : EReal) := by
  unfold grad
  rw [det_lower, Fin.sum_univ_three, Fin.sum_univ_three, ← diff_mul _ _ (399 / 4 : ℝ) (by norm_num), ← diff_mul _ _ (249 : ℝ) (by norm_num)]
  refine ⟨?_, ?_⟩
  · rw [show (opp (lower j i) 0 0 * (1 / (4 / 99351)) : ℝ) = -(399 / 4) by simp [opp, lower]; ring,
      show (opp (lower j i) 1 0 * (1 / (4 / 99351)) : ℝ) = 399 / 4 by simp [opp, lower]; ring,
      show (opp (lower j i) 2 0 * (1 / (4 / 99351)) : ℝ) = 0 by simp [opp, lower], EReal.coe_zero, mul_zero, add_zero]
  · rw [show (opp (lower j i) 0 1 * (1 / (4 / 99351)) : ℝ) = 0 by simp [opp, lower],
      show (opp (lower j i) 1 1 * (1 / (4 / 99351)) : ℝ) = -249 by simp [opp, lower]; ring,
      show (opp (lower j i) 2 1 * (1 / (4 / 99351)) : ℝ) = 249 by simp [opp, lower]; ring, EReal.coe_zero, mul_zero, zero_add]

theorem grad_upper (j i : ℕ) (U : Fin 3 → Fin 2 → EReal) (a : Fin 2) :
    grad (upper j i) U a 0 = (U 1 a - U 2 a) * ((399 / 4 : ℝ) : EReal) ∧ grad (upper j i) U a 1 = (U 2 a - U 0 a) * ((249 : ℝ) : EReal) := by
  unfold grad
  rw [det_upper, Fin.sum_univ_three, Fin.sum_univ_three, ← diff_mul _ _ (399 / 4 : ℝ) (by norm_num), ← diff_mul _ _ (249 : ℝ) (by norm_num)]
  refine ⟨?_, ?_⟩
  · rw [show (opp (upper j i) 0 0 * (1 / (4 / 99351)) : ℝ) = 0 by simp [opp, upper],
      show (opp (upper j i) 1 0 * (1 / (4 / 99351)) : ℝ) = 399 / 4 by simp [opp, upper]; ring,
      show (opp (upper j i) 2 0 * (1 / (4 / 99351)) : ℝ) = -(399 / 4) by simp [opp, upper]; ring, EReal.coe_zero, mul_zero, zero_add, add_comm]
  · rw [show (opp (upper j i) 0 1 * (1 / (4 / 99351)) : ℝ) = -249 by simp [opp, upper]; ring,
      show (opp (upper j i) 1 1 * (1 / (4 / 99351)) : ℝ) = 0 by simp [opp, upper],
      show (opp (upper j i) 2 1 * (1 / (4 / 99351)) : ℝ) = 249 by simp [opp, upper]; ring, EReal.coe_zero, mul_zero, add_zero]

/-- Component `c` of the displacement at node `n`. -/
abbrev disp (w : EReal) (n c : ℕ) : EReal := fld w x0 (n * 2 + c)

/-- The lower triangle's density in cell `(j, i)`, from the four corners' displacements. -/
def lowDens (w : EReal) (j i : ℕ) : EReal :=
  cell (disp x0 w (j * 400 + i + 1) 0 - disp x0 w (j * 400 + i) 0) (disp x0 w (j * 400 + i + 1) 1 - disp x0 w (j * 400 + i) 1)
    (disp x0 w (j * 400 + i + 401) 0 - disp x0 w (j * 400 + i + 1) 0) (disp x0 w (j * 400 + i + 401) 1 - disp x0 w (j * 400 + i + 1) 1)

/-- The upper triangle's density in cell `(j, i)`, from the four corners' displacements. -/
def upDens (w : EReal) (j i : ℕ) : EReal :=
  cell (disp x0 w (j * 400 + i + 401) 0 - disp x0 w (j * 400 + i + 400) 0) (disp x0 w (j * 400 + i + 401) 1 - disp x0 w (j * 400 + i + 400) 1)
    (disp x0 w (j * 400 + i + 400) 0 - disp x0 w (j * 400 + i) 0) (disp x0 w (j * 400 + i + 400) 1 - disp x0 w (j * 400 + i) 1)

variable (hm : Cert.Mesh.IsMesh x2 x3 x4)

include hm in
/-- The energy of a lower triangle. -/
theorem lower_at (j : Fin 249) (i : Fin 399) (he : e.val = j.val * 399 + i.val) :
    val_main_v205 (F := Ideal) x0 x1 x2 x3 x4 (ix1 e) = lowDens x0 (pull (x1 (ix1 (0 : Fin 1)))) j.val i.val * ((2 / 99351 : ℝ) : EReal) := by
  have hj := j.isLt
  have hi := i.isLt
  have h0 := hm.lo0 j i e he
  have h1 := hm.lo1 j i e he
  have h2 := hm.lo2 j i e he
  let n0 : Fin 100000 := ⟨j.val * 400 + i.val, by omega⟩
  let n1 : Fin 100000 := ⟨j.val * 400 + i.val + 1, by omega⟩
  let n2 : Fin 100000 := ⟨j.val * 400 + i.val + 401, by omega⟩
  let j0 : Fin 250 := ⟨j.val, by omega⟩
  let j1 : Fin 250 := ⟨j.val + 1, by omega⟩
  let i0 : Fin 400 := ⟨i.val, by omega⟩
  let i1 : Fin 400 := ⟨i.val + 1, by omega⟩
  have hX : ∀ k c, val_main_v108 (F := Ideal) x2 x3 (ix3 e k c) = ((lower j.val i.val k c : ℝ) : EReal) := by
    intro k c
    match k, c with
    | ⟨0, _⟩, ⟨0, _⟩ => exact (v108_at x2 x3 e 0 0 n0 h0).trans (hm.cx j0 i0 n0 rfl)
    | ⟨0, _⟩, ⟨1, _⟩ => exact (v108_at x2 x3 e 0 1 n0 h0).trans (hm.cy j0 i0 n0 rfl)
    | ⟨1, _⟩, ⟨0, _⟩ => exact (v108_at x2 x3 e 1 0 n1 h1).trans (hm.cx j0 i1 n1 rfl)
    | ⟨1, _⟩, ⟨1, _⟩ => exact (v108_at x2 x3 e 1 1 n1 h1).trans (hm.cy j0 i1 n1 rfl)
    | ⟨2, _⟩, ⟨0, _⟩ => exact (v108_at x2 x3 e 2 0 n2 h2).trans (hm.cx j1 i1 n2 (by show j.val * 400 + i.val + 401 = (j.val + 1) * 400 + (i.val + 1); omega))
    | ⟨2, _⟩, ⟨1, _⟩ => exact (v108_at x2 x3 e 2 1 n2 h2).trans (hm.cy j1 i1 n2 (by show j.val * 400 + i.val + 401 = (j.val + 1) * 400 + (i.val + 1); omega))
  have hU : ∀ k a, val_main_v115 (F := Ideal) x0 x1 x3 x4 (ix3 e k a)
      = disp x0 (pull (x1 (ix1 (0 : Fin 1)))) ((![n0, n1, n2] : Fin 3 → Fin 100000) k).val a.val := by
    intro k a
    match k with
    | ⟨0, _⟩ => exact (v115_at x0 x1 x3 x4 e 0 a n0 h0).trans (v101_at x0 x1 x4 hm.edge n0 a)
    | ⟨1, _⟩ => exact (v115_at x0 x1 x3 x4 e 1 a n1 h1).trans (v101_at x0 x1 x4 hm.edge n1 a)
    | ⟨2, _⟩ => exact (v115_at x0 x1 x3 x4 e 2 a n2 h2).trans (v101_at x0 x1 x4 hm.edge n2 a)
  rw [v205_at x0 x1 x2 x3 x4 e _ hX (by rw [det_lower]; norm_num)
      (fun k a => disp x0 (pull (x1 (ix1 (0 : Fin 1)))) ((![n0, n1, n2] : Fin 3 → Fin 100000) k).val a.val) hU, det_lower, (grad_lower _ _ _ 0).1, (grad_lower _ _ _ 0).2,
    (grad_lower _ _ _ 1).1, (grad_lower _ _ _ 1).2, show (1 / 2 * (4 / 99351) : ℝ) = 2 / 99351 by norm_num]
  rfl

include hm in
/-- The energy of an upper triangle. -/
theorem upper_at (j : Fin 249) (i : Fin 399) (he : e.val = 99351 + (j.val * 399 + i.val)) :
    val_main_v205 (F := Ideal) x0 x1 x2 x3 x4 (ix1 e) = upDens x0 (pull (x1 (ix1 (0 : Fin 1)))) j.val i.val * ((2 / 99351 : ℝ) : EReal) := by
  have hj := j.isLt
  have hi := i.isLt
  have h0 := hm.up0 j i e he
  have h1 := hm.up1 j i e he
  have h2 := hm.up2 j i e he
  let n0 : Fin 100000 := ⟨j.val * 400 + i.val, by omega⟩
  let n1 : Fin 100000 := ⟨j.val * 400 + i.val + 401, by omega⟩
  let n2 : Fin 100000 := ⟨j.val * 400 + i.val + 400, by omega⟩
  let j0 : Fin 250 := ⟨j.val, by omega⟩
  let j1 : Fin 250 := ⟨j.val + 1, by omega⟩
  let i0 : Fin 400 := ⟨i.val, by omega⟩
  let i1 : Fin 400 := ⟨i.val + 1, by omega⟩
  have hX : ∀ k c, val_main_v108 (F := Ideal) x2 x3 (ix3 e k c) = ((upper j.val i.val k c : ℝ) : EReal) := by
    intro k c
    match k, c with
    | ⟨0, _⟩, ⟨0, _⟩ => exact (v108_at x2 x3 e 0 0 n0 h0).trans (hm.cx j0 i0 n0 rfl)
    | ⟨0, _⟩, ⟨1, _⟩ => exact (v108_at x2 x3 e 0 1 n0 h0).trans (hm.cy j0 i0 n0 rfl)
    | ⟨1, _⟩, ⟨0, _⟩ => exact (v108_at x2 x3 e 1 0 n1 h1).trans (hm.cx j1 i1 n1 (by show j.val * 400 + i.val + 401 = (j.val + 1) * 400 + (i.val + 1); omega))
    | ⟨1, _⟩, ⟨1, _⟩ => exact (v108_at x2 x3 e 1 1 n1 h1).trans (hm.cy j1 i1 n1 (by show j.val * 400 + i.val + 401 = (j.val + 1) * 400 + (i.val + 1); omega))
    | ⟨2, _⟩, ⟨0, _⟩ => exact (v108_at x2 x3 e 2 0 n2 h2).trans (hm.cx j1 i0 n2 (by show j.val * 400 + i.val + 400 = (j.val + 1) * 400 + i.val; omega))
    | ⟨2, _⟩, ⟨1, _⟩ => exact (v108_at x2 x3 e 2 1 n2 h2).trans (hm.cy j1 i0 n2 (by show j.val * 400 + i.val + 400 = (j.val + 1) * 400 + i.val; omega))
  have hU : ∀ k a, val_main_v115 (F := Ideal) x0 x1 x3 x4 (ix3 e k a)
      = disp x0 (pull (x1 (ix1 (0 : Fin 1)))) ((![n0, n1, n2] : Fin 3 → Fin 100000) k).val a.val := by
    intro k a
    match k with
    | ⟨0, _⟩ => exact (v115_at x0 x1 x3 x4 e 0 a n0 h0).trans (v101_at x0 x1 x4 hm.edge n0 a)
    | ⟨1, _⟩ => exact (v115_at x0 x1 x3 x4 e 1 a n1 h1).trans (v101_at x0 x1 x4 hm.edge n1 a)
    | ⟨2, _⟩ => exact (v115_at x0 x1 x3 x4 e 2 a n2 h2).trans (v101_at x0 x1 x4 hm.edge n2 a)
  rw [v205_at x0 x1 x2 x3 x4 e _ hX (by rw [det_upper]; norm_num)
      (fun k a => disp x0 (pull (x1 (ix1 (0 : Fin 1)))) ((![n0, n1, n2] : Fin 3 → Fin 100000) k).val a.val) hU, det_upper, (grad_upper _ _ _ 0).1, (grad_upper _ _ _ 0).2,
    (grad_upper _ _ _ 1).1, (grad_upper _ _ _ 1).2, show (1 / 2 * (4 / 99351) : ℝ) = 2 / 99351 by norm_num]
  rfl

end Cert.RefTri

end
-- ==== Proof.KernelTri.lean ====
/- The kernel's lanes: the padded field, the energy density of a cell, and the mask of the even lanes. -/
module

public import proofs.«01_k».proof.Proof.Gen.KernelIdeal.Skeleton
public import proofs.«01_k».proof.Proof.Tri
public import proofs.«01_k».proof.Proof.RefTri
public import Idealize.ShloMosaic.Lib.Pipeline.Value
public import Idealize.ShloMosaic.Lib.WordCmp
public import Idealize.ShloMosaic.PureOps.IdealRules

@[expose] public section

set_option maxRecDepth 16384

noncomputable section

namespace Cert.KernelTri

open Cert.KernelIdeal Cert.KernelIdeal.Gen Cert.Con Cert.Tri Cert.Field Cert.RefTri
open Idealize.ShloMosaic Idealize.ShloMosaic.ValueIdx

variable (v0 : EReal) (v5 : S250x798.Idx → EReal) (u : (⟨1, ![199500]⟩ : Shape).Idx → EReal)
  (hv : ∀ (j : Fin 250) (c : Fin 798) (d : Fin 199500), d.val = 798 * j.val + c.val → v5 (ix2 j c) = u (ix1 d))

include hv in
/-- Row `j`, lane `l` of the padded field: the field's component `800 j + l`. -/
theorem row_at (j : Fin 250) (l : Fin 802) (hl : l.val < 800) (n : ℕ) (hn : n = 800 * j.val + l.val) :
    k0_pay2 (F := Ideal) v0 v5 (ix2 j l) = fld (pull v0) u n := by
  have hj := j.isLt
  have hd : n / 800 = j.val := by omega
  have hm : n % 800 = l.val := by omega
  unfold k0_pay2 fld
  rw [hd, hm]
  by_cases h2 : l.val < 2
  · refine (concatenate_apply_piece (1 : Fin S250x802.rank) _ _ (ix2 j l) 0 (by show 0 < 3; omega) S250x2 _ rfl rfl 0 rfl
      (ix2 j (⟨l.val, h2⟩ : Fin 2)) (fun b hb => by
        match b with
        | ⟨0, _⟩ => rfl
        | ⟨1, _⟩ => exact (hb rfl).elim) (Nat.zero_add _)).trans ?_
    by_cases h0 : l.val = 0
    · rw [if_pos h0, show (⟨l.val, h2⟩ : Fin 2) = 0 from Fin.ext h0]
      exact pair_left (n := 250) _ _ concatenates_S250x1_S250x1_S250x2_d1 j
    · rw [if_neg h0, if_pos (by omega), show (⟨l.val, h2⟩ : Fin 2) = 1 from Fin.ext (by show l.val = 1; omega)]
      exact (pair_right (n := 250) _ _ concatenates_S250x1_S250x1_S250x2_d1 j).trans b_zero
  · have hlt : 798 * j.val + (l.val - 2) < 199500 := by omega
    rw [if_neg (by omega), if_neg (by omega), dif_pos hlt]
    refine (concatenate_apply_piece (1 : Fin S250x802.rank) _ _ (ix2 j l) 1 (by show 1 < 3; omega) S250x798 _ rfl rfl 2 rfl
      (ix2 j (⟨l.val - 2, by omega⟩ : Fin 798)) (fun b hb => by
        match b with
        | ⟨0, _⟩ => rfl
        | ⟨1, _⟩ => exact (hb rfl).elim) (by show 2 + (l.val - 2) = l.val; omega)).trans ?_
    rw [shapeCast_self]
    exact hv j _ _ rfl

/-- A cut of the padded field by row offset `p` and lane offset `q`. -/
theorem cut_at (x : S250x802.Idx → EReal) (p q : ℕ) (h : S250x802.Slices ![p, q] S249x800) (j : Fin 249) (l : Fin 800) (j' : Fin 250) (l' : Fin 802)
    (hj : j'.val = p + j.val) (hl : l'.val = q + l.val) :
    extractStridedSlice S249x800 ![p, q] x h (ix2 j l) = x (ix2 j' l') :=
  extractStridedSlice_apply _ x h _ _ fun a => by
    match a with
    | ⟨0, _⟩ => exact hj
    | ⟨1, _⟩ => exact hl

/-- A cut of 798 of the 800 lanes. -/
theorem lane_at (x : S249x800.Idx → EReal) (q : ℕ) (h : S249x800.Slices ![0, q] S249x798) (j : Fin 249) (l : Fin 798) (l' : Fin 800)
    (hl : l'.val = q + l.val) : extractStridedSlice S249x798 ![0, q] x h (ix2 j l) = x (ix2 j l') :=
  extractStridedSlice_apply _ x h _ _ fun a => by
    match a with
    | ⟨0, _⟩ => exact (Nat.zero_add _).symm
    | ⟨1, _⟩ => exact hl

include hv in
theorem a_at (j : Fin 249) (l : Fin 800) (n : ℕ) (hn : n = 800 * j.val + l.val) :
    k0_pay3 (F := Ideal) v0 v5 (ix2 j l) = fld (pull v0) u n := by
  have hj := j.isLt
  have hl := l.isLt
  unfold k0_pay3
  exact (cut_at _ 0 0 _ j l ⟨j.val, by omega⟩ ⟨l.val, by omega⟩ (Nat.zero_add _).symm (Nat.zero_add _).symm).trans
    (row_at v0 v5 u hv _ _ hl n hn)

include hv in
theorem b_at (j : Fin 249) (l : Fin 800) (hl : l.val < 798) (n : ℕ) (hn : n = 800 * j.val + l.val + 2) :
    extractStridedSlice S249x800 ![0, 2] (k0_pay2 (F := Ideal) v0 v5) slices_S250x802_o0_2_S249x800 (ix2 j l) = fld (pull v0) u n := by
  have hj := j.isLt
  exact (cut_at _ 0 2 _ j l ⟨j.val, by omega⟩ ⟨2 + l.val, by omega⟩ (Nat.zero_add _).symm rfl).trans
    (row_at v0 v5 u hv _ _ (by show 2 + l.val < 800; omega) n (by show n = 800 * j.val + (2 + l.val); omega))

include hv in
theorem c_at (j : Fin 249) (l : Fin 800) (n : ℕ) (hn : n = 800 * j.val + l.val + 800) :
    k0_pay4 (F := Ideal) v0 v5 (ix2 j l) = fld (pull v0) u n := by
  have hj := j.isLt
  have hl := l.isLt
  unfold k0_pay4
  exact (cut_at _ 1 0 _ j l ⟨1 + j.val, by omega⟩ ⟨l.val, by omega⟩ rfl (Nat.zero_add _).symm).trans
    (row_at v0 v5 u hv _ _ hl n (by show n = 800 * (1 + j.val) + l.val; omega))

include hv in
theorem d_at (j : Fin 249) (l : Fin 800) (hl : l.val < 798) (n : ℕ) (hn : n = 800 * j.val + l.val + 802) :
    k0_pay5 (F := Ideal) v0 v5 (ix2 j l) = fld (pull v0) u n := by
  have hj := j.isLt
  unfold k0_pay5
  exact (cut_at _ 1 2 _ j l ⟨1 + j.val, by omega⟩ ⟨2 + l.val, by omega⟩ rfl rfl).trans
    (row_at v0 v5 u hv _ _ (by show 2 + l.val < 800; omega) n (by show n = 800 * (1 + j.val) + (2 + l.val); omega))

/-- The density as the kernel writes it, over the constants' words. -/
def wordDens (a0 a1 b0 b1 : EReal) : EReal :=
  let dx : EReal := Scalar.ofBits (F := Ideal) .f32 0x42C78000#32
  let dy : EReal := Scalar.ofBits (F := Ideal) .f32 0x43790000#32
  let la : EReal := Scalar.ofBits (F := Ideal) .f32 0x40389D8A#32
  let m : EReal := Scalar.ofBits (F := Ideal) .f32 0x40762762#32
  let hf : EReal := Scalar.ofBits (F := Ideal) .f32 0x3F000000#32
  (la * (a0 * dx + b1 * dy)) * (a0 * dx + b1 * dy)
    + m * (((a0 * dx) * (a0 * dx) + (b1 * dy) * (b1 * dy)) + (hf * (b0 * dy + a1 * dx)) * (b0 * dy + a1 * dx))

theorem wordDens_eq (a0 a1 b0 b1 : EReal) : wordDens a0 a1 b0 b1 = cell a0 a1 b0 b1 := by
  unfold wordDens cell dens
  rw [b_dx, b_dy, b_lam, b_mu, b_half]

/-- The lower triangle's density over the cuts. -/
theorem pay8_form (i : S249x798.Idx) : k0_pay8 (F := Ideal) v0 v5 i = wordDens
    (extractStridedSlice S249x798 ![0, 0] (subf (extractStridedSlice S249x800 ![0, 2] (k0_pay2 (F := Ideal) v0 v5) slices_S250x802_o0_2_S249x800) (k0_pay3 v0 v5)) slices_S249x800_o0_0_S249x798 i)
    (extractStridedSlice S249x798 ![0, 1] (subf (extractStridedSlice S249x800 ![0, 2] (k0_pay2 (F := Ideal) v0 v5) slices_S250x802_o0_2_S249x800) (k0_pay3 v0 v5)) slices_S249x800_o0_1_S249x798 i)
    (extractStridedSlice S249x798 ![0, 0] (subf (k0_pay5 v0 v5) (extractStridedSlice S249x800 ![0, 2] (k0_pay2 (F := Ideal) v0 v5) slices_S250x802_o0_2_S249x800)) slices_S249x800_o0_0_S249x798 i)
    (extractStridedSlice S249x798 ![0, 1] (subf (k0_pay5 v0 v5) (extractStridedSlice S249x800 ![0, 2] (k0_pay2 (F := Ideal) v0 v5) slices_S250x802_o0_2_S249x800)) slices_S249x800_o0_1_S249x798 i) := rfl

/-- The cell's energy over the differences and the lower density. -/
theorem pay11_form (x y : FVec Ideal S249x800 .f32) (z t : FVec Ideal S249x798 .f32) (i : S249x798.Idx) :
    k0_pay11 (F := Ideal) x y z t k0_pay10 i = (z i + wordDens (t i) (extractStridedSlice S249x798 ![0, 1] x slices_S249x800_o0_1_S249x798 i)
      (extractStridedSlice S249x798 ![0, 0] y slices_S249x800_o0_0_S249x798 i) (extractStridedSlice S249x798 ![0, 1] y slices_S249x800_o0_1_S249x798 i))
      * (Named.named (F := Ideal) (φ := .f32) κ "cell_area" 0x37A8DE3D#32 : EReal) := rfl

theorem area_eq : (Named.named (F := Ideal) (φ := .f32) κ "cell_area" 0x37A8DE3D#32 : EReal) = ((2 / 99351 : ℝ) : EReal) :=
  IdealRules.named_const.ideal_named_scalar _ _ _ _ rfl

include hv in
/-- The energy on an even lane. -/
theorem cell_at (j : Fin 249) (i : Fin 399) (l : Fin 798) (hl : l.val = 2 * i.val) :
    k0_pay11 (F := Ideal) (k0_pay6 v0 v5) (k0_pay7 v0 v5) (k0_pay8 v0 v5) (k0_pay9 v0 v5) k0_pay10 (ix2 j l)
      = (lowDens u (pull v0) j.val i.val + upDens u (pull v0) j.val i.val) * ((2 / 99351 : ℝ) : EReal) := by
  have hj := j.isLt
  have hi := i.isLt
  let l0 : Fin 800 := ⟨l.val, by omega⟩
  let l1 : Fin 800 := ⟨1 + l.val, by omega⟩
  have e0 : l0.val = 0 + l.val := (Nat.zero_add _).symm
  have e1 : l1.val = 1 + l.val := rfl
  rw [pay11_form, area_eq, pay8_form, wordDens_eq, wordDens_eq]
  unfold k0_pay9
  rw [lane_at _ 0 _ j l l0 e0, lane_at _ 1 _ j l l1 e1, lane_at _ 0 _ j l l0 e0, lane_at _ 1 _ j l l1 e1, lane_at _ 0 _ j l l0 e0,
    lane_at _ 1 _ j l l1 e1, lane_at _ 0 _ j l l0 e0, lane_at _ 1 _ j l l1 e1]
  unfold k0_pay6 k0_pay7
  simp only [subf_apply]
  rw [b_at v0 v5 u hv j l0 (by show l.val < 798; omega) ((j.val * 400 + i.val + 1) * 2 + 0) (by show _ = 800 * j.val + l.val + 2; omega),
    b_at v0 v5 u hv j l1 (by show 1 + l.val < 798; omega) ((j.val * 400 + i.val + 1) * 2 + 1) (by show _ = 800 * j.val + (1 + l.val) + 2; omega),
    a_at v0 v5 u hv j l0 ((j.val * 400 + i.val) * 2 + 0) (by show _ = 800 * j.val + l.val; omega),
    a_at v0 v5 u hv j l1 ((j.val * 400 + i.val) * 2 + 1) (by show _ = 800 * j.val + (1 + l.val); omega),
    c_at v0 v5 u hv j l0 ((j.val * 400 + i.val + 400) * 2 + 0) (by show _ = 800 * j.val + l.val + 800; omega),
    c_at v0 v5 u hv j l1 ((j.val * 400 + i.val + 400) * 2 + 1) (by show _ = 800 * j.val + (1 + l.val) + 800; omega),
    d_at v0 v5 u hv j l0 (by show l.val < 798; omega) ((j.val * 400 + i.val + 401) * 2 + 0) (by show _ = 800 * j.val + l.val + 802; omega),
    d_at v0 v5 u hv j l1 (by show 1 + l.val < 798; omega) ((j.val * 400 + i.val + 401) * 2 + 1) (by show _ = 800 * j.val + (1 + l.val) + 802; omega)]
  rfl

/-- The parity word of a lane. -/
theorem parity_at (j : Fin 249) (l : Fin 798) : k0_pay12 (ix2 j l) = BitVec.ofNat 32 (l.val % 2) := by
  have key : ∀ l : Fin 798, (let r := IntOp.remsi .vector (BitVec.ofNat 32 (0 * 798 + l.val)) 2#32
      Scalar.select (IntOp.andi (IntOp.xori (IntOp.cmpi .slt r 0#32) (IntOp.cmpi .slt 2#32 0#32)) (IntOp.cmpi .ne r 0#32)) (IntOp.addi r 2#32) r)
        = BitVec.ofNat 32 (l.val % 2) := by decide
  refine Eq.trans ?_ (key l)
  rfl

end Cert.KernelTri

end
-- ==== Proof.Sums.lean ====
/- Both programs' totals as one sum over the cells of the mesh. -/
module

public import proofs.«01_k».proof.Proof.KernelTri

@[expose] public section

set_option maxRecDepth 16384

noncomputable section

namespace Cert.Sums

open Cert.Con Cert.Tri Cert.Field Cert.RefTri Cert.KernelTri
open Idealize.ShloMosaic Idealize.ShloMosaic.ValueIdx

/-- The energy of the whole mesh, cell by cell. -/
def total (w : EReal) (u : (⟨1, ![199500]⟩ : Shape).Idx → EReal) : EReal :=
  ∑ j : Fin 249, ∑ i : Fin 399, (lowDens u w j.val i.val + upDens u w j.val i.val) * ((2 / 99351 : ℝ) : EReal)

/-- A sum over `m * n` positions, row by row. -/
theorem sum_rows {M : Type*} [AddCommMonoid M] {m n : ℕ} (f : Fin (m * n) → M) :
    ∑ e, f e = ∑ j : Fin m, ∑ i : Fin n, f (finProdFinEquiv (j, i)) := by
  rw [← Equiv.sum_comp finProdFinEquiv f, Fintype.sum_prod_type]

/-- A sum over rank-1 indices. -/
theorem sum_one {M : Type*} [AddCommMonoid M] {n : ℕ} (f : (⟨1, ![n]⟩ : Shape).Idx → M) : ∑ i, f i = ∑ e : Fin n, f (ix1 e) :=
  (Fintype.sum_equiv ⟨fun a => ix1 a, fun i => i 0, fun _ => rfl, fun i => (eq_ix1 i).symm⟩ (fun a => f (ix1 a)) f fun _ => rfl).symm

section Reference

open Cert.ReferenceIdeal Cert.ReferenceIdeal.Gen Cert.ReferenceIdeal.Read

variable (x0 : S199500.Idx → EReal) (x1 : S1.Idx → EReal) (x2 : S100000x2.Idx → EReal) (x3 : S198702x3.Idx → BitVec 32)
  (x4 : S250.Idx → BitVec 32) (hm : Cert.Mesh.IsMesh x2 x3 x4)

include hm in
/-- The reference's result. -/
theorem reference_total (i : S_.Idx) : val_main_v206 (F := Ideal) x0 x1 x2 x3 x4 i = total (pull (x1 (ix1 (0 : Fin 1)))) x0 := by
  rw [val_main_v206_apply, show val_main_cst_45 (F := Ideal) (Shape.Idx.first h_S_) = 0 from b_zero, zero_add]
  refine (sum_one (n := 198702) _).trans ?_
  refine (Fin.sum_univ_add (a := 99351) (b := 99351) (fun e => val_main_v205 (F := Ideal) x0 x1 x2 x3 x4 (ix1 e))).trans ?_
  rw [sum_rows (m := 249) (n := 399) (fun e => val_main_v205 (F := Ideal) x0 x1 x2 x3 x4 (ix1 (Fin.castAdd 99351 e))),
    sum_rows (m := 249) (n := 399) (fun e => val_main_v205 (F := Ideal) x0 x1 x2 x3 x4 (ix1 (Fin.natAdd 99351 e))), ← Finset.sum_add_distrib]
  unfold total
  refine Finset.sum_congr rfl fun j _ => ?_
  rw [← Finset.sum_add_distrib]
  refine Finset.sum_congr rfl fun i _ => ?_
  rw [lower_at x0 x1 x2 x3 x4 _ hm j i (by
      show (finProdFinEquiv (j, i)).val = _
      rw [finProdFinEquiv_apply_val]; show i.val + 399 * j.val = _; omega),
    upper_at x0 x1 x2 x3 x4 _ hm j i (by
      show 99351 + (finProdFinEquiv (j, i)).val = _
      rw [finProdFinEquiv_apply_val]; show 99351 + (i.val + 399 * j.val) = _; omega),
    mul_add_pos _ (by norm_num)]

end Reference

section Kernel

open Cert.KernelIdeal Cert.KernelIdeal.Gen

variable (v0 : EReal) (v5 : S250x798.Idx → EReal) (u : (⟨1, ![199500]⟩ : Shape).Idx → EReal)
  (hv : ∀ (j : Fin 250) (c : Fin 798) (d : Fin 199500), d.val = 798 * j.val + c.val → v5 (ix2 j c) = u (ix1 d))

/-- The masked sum: the lanes' values over the even lanes. -/
theorem masked (x : S249x798.Idx → EReal) (i : S1x1.Idx) :
    k0_pay1 (F := Ideal) x k0_pay12 k0_pay13 i = ∑ j : Fin 249, ∑ l : Fin 798, if l.val % 2 = 0 then x (ix2 j l) else 0 := by
  unfold k0_pay1
  show extractAt ![0, 0, 0] (shapeCast S1x1x1 _ _) _ = _
  unfold extractAt
  rw [shapeCast_apply (s := S1) (t := S1x1x1) _ shapeCasts_S1_S1x1x1 _ (ix1 (0 : Fin 1)) (by
    rw [Shape.rowMajor_val_one, Shape.rowMajor_val_three]; rfl)]
  refine (Ideal.multiReduction_add_total _ _ reduces_S1x249x798_S1 (fun b => by match b with | ⟨0, _⟩ => rfl) _ _ _).trans ?_
  refine (Equiv.sum_comp (Shape.reshapeEquiv shapeCasts_S249x798_S1x249x798) _).trans ?_
  rw [sum_idx2]
  refine Finset.sum_congr rfl fun j _ => Finset.sum_congr rfl fun l _ => ?_
  have hl := l.isLt
  show Scalar.select (IntOp.cmpi .eq (k0_pay12 (ix2 j l)) 0#32) (x (ix2 j l)) (Scalar.ofBits (F := Ideal) .f32 0x00000000#32 : EReal) = _
  rw [parity_at, b_zero]
  rcases Nat.mod_two_eq_zero_or_one l.val with h | h
  · rw [h, if_pos rfl]; rfl
  · rw [h, if_neg (by decide)]; rfl

include hv in
/-- The kernel's result. -/
theorem kernel_total (i : S1x1.Idx) :
    k0_pay1 (F := Ideal) (k0_pay11 (k0_pay6 v0 v5) (k0_pay7 v0 v5) (k0_pay8 v0 v5) (k0_pay9 v0 v5) k0_pay10) k0_pay12 k0_pay13 i
      = total (pull v0) u := by
  rw [masked]
  unfold total
  refine Finset.sum_congr rfl fun j _ => ?_
  refine (sum_rows (m := 399) (n := 2) _).trans ?_
  refine Finset.sum_congr rfl fun i _ => ?_
  have hi := i.isLt
  rw [Fin.sum_univ_two]
  have h0 : (finProdFinEquiv (i, (0 : Fin 2))).val = 2 * i.val := by rw [finProdFinEquiv_apply_val]; show 0 + 2 * i.val = _; omega
  have h1 : (finProdFinEquiv (i, (1 : Fin 2))).val = 2 * i.val + 1 := by rw [finProdFinEquiv_apply_val]; show 1 + 2 * i.val = _; omega
  rw [if_pos (by rw [h0]; omega), if_neg (by rw [h1]; omega), add_zero]
  exact cell_at v0 v5 u hv j i _ h0

end Kernel

end Cert.Sums

end
-- ==== Proof.KernelRun.lean ====
/- The kernel's run read at its result: the staged blocks, the stored value, the reshape after the region. -/
module

public import proofs.«01_k».proof.Proof.Gen.KernelIdeal.Frame
public import proofs.«01_k».proof.Proof.Sums
public import Idealize.ShloMosaic.Lib.Pipeline.ValueKit

@[expose] public section

set_option maxRecDepth 16384

noncomputable section

namespace Cert.KernelRun

open Cert.KernelIdeal Cert.KernelIdeal.Gen Cert.Field Cert.Sums
open Idealize.ShloMosaic Idealize.ShloMosaic.TcCoe Idealize.ShloMosaic.Tactic Idealize.SL.Sem

variable (m : (ℓ : Loc nD τ sig) → Buf (Elt Ideal) ℓ) (c : Dev nD)

/-- The time's block is the launched time. -/
theorem time_block : iblk m c 0 t0_0 = m ((c : Thread nD τ).loc main_arg1) := by
  show (win0_0.blk t0_0).view.read (Elt Ideal) (V m c main_arg1) = _
  rw [V_main_arg1]
  exact Memref.read_access_unit_zero (Elt Ideal) main_arg1
    (show (fun a => (win0_0.index t0_0) a * main_arg1.ty.shape.size a) = fun _ => 0 from
      funext fun a => by fin_cases a <;> decide) (fun a => by fin_cases a <;> decide) _

/-- The free components' array, as the region finds it: the launched vector in rows of 798. -/
theorem rows_entry : V m c main_v0 = shapeCast S250x798 (m ((c : Thread nD τ).loc main_arg0)) shapeCasts_S199500_S250x798 := by
  show StableHlo.after (List.flatten [hostOps0]) (fun b => m (c, b)) (Proc.devRef .tc main_v0) = _
  simp only [hostOps0, List.flatten_cons, List.flatten_nil, List.append_nil]
  after_results
  rfl

/-- The free components' block. -/
theorem rows_block : iblk m c 1 t0_0 = shapeCast S250x798 (m ((c : Thread nD τ).loc main_arg0)) shapeCasts_S199500_S250x798 := by
  show (win0_1.blk t0_0).view.read (Elt Ideal) (V m c main_v0) = _
  rw [rows_entry]
  exact Memref.read_access_unit_zero (Elt Ideal) main_v0
    (show (fun a => (win0_1.index t0_0) a * main_v0.ty.shape.size a) = fun _ => 0 from
      funext fun a => by fin_cases a <;> decide) (fun a => by fin_cases a <;> decide) _

/-- The result array after the region. -/
theorem result_read (f : Buf (Elt Ideal) ((c : Thread nD τ).loc main_v1)) : (win0_2.blk t0_0).view.read (Elt Ideal) f = f :=
  Memref.read_access_unit_zero (Elt Ideal) main_v1
    (show (fun a => (win0_2.index t0_0) a * main_v1.ty.shape.size a) = fun _ => 0 from
      funext fun a => by fin_cases a <;> decide) (fun a => by fin_cases a <;> decide) f

theorem result_array : (dats m 0 c).arrAt 2 cfg0.N = outsAt0 m c t0_0 := by
  have h : ((cfg0.win 2).blk t0_0).view.read (Elt Ideal) ((dats m 0 c).arrAt 2 cfg0.N) = (dats m 0 c).flushed 2 t0_0 := by
    rw [show cfg0.N = t0_0.val + 1 from rfl, (dats m 0 c).arrAt_succ (2 : Fin 3) t0_0, flush0_2, if_pos rfl]
    exact View.read_write_univ _ _
  have hf : (dats m 0 c).flushed 2 t0_0 = outsAt0 m c t0_0 := by
    show (cfg0.win 2).cut _ ((dats m 0 c).after 2 t0_0) = _
    rw [after0_2]
    exact funext fun _ => rfl
  exact (result_read c _).symm.trans (h.trans hf)

/-- What the body stores, over its two blocks. -/
theorem stored (x0 : Vec Ideal S1 .f32) (x1 : Vec Ideal S250x798 .f32) :
    out0_A_2 c (ms0_0 t0_0) (hs0_0 t0_0) (ms0_1 t0_0) (hs0_1 t0_0) (ms0_2 t0_0) (hs0_2 t0_0) x0 x1
      = k0_pay1 (k0_pay11 (k0_pay6 (x0 (ValueIdx.ix1 (0 : Fin 1))) x1) (k0_pay7 (x0 (ValueIdx.ix1 (0 : Fin 1))) x1) (k0_pay8 (x0 (ValueIdx.ix1 (0 : Fin 1))) x1)
          (k0_pay9 (x0 (ValueIdx.ix1 (0 : Fin 1))) x1) k0_pay10) k0_pay12 k0_pay13 := by
  unfold out0_A_2
  rw [View.read_writes_eq_canon _ _ _ (cover0_A_2 c _ _ _ _ _ _ _ _)]
  unfold kernelRun0_A
  dsimp only
  sl_unfold_words
  simp only [View.readAt_eq_ld, (hs0_0 t0_0).read_unread, (hs0_1 t0_0).read_unread]
  rw [View.ld_unit_lit _ x1 (by decide), View.ld_unit_lit _ x0 (by decide), View.canon_cons_unit_lit _ _ _ (by decide)]
  have e : ∀ h : 0 < S1.numel, Shape.Idx.first h = ValueIdx.ix1 (0 : Fin 1) := fun h =>
    funext fun a => Fin.ext (by fin_cases a; rfl)
  simp only [e]

/-- The reshape after the region reads the region's result array. -/
theorem tail_result : Pipeline.afterTail₀ cfgs (dats m) 0 (V0 m) [hostOps1] c main_v2
    = shapeCast S_ ((dats m 0 c).arrAt 2 cfg0.N) shapeCasts_S1x1_S_ := by
  unfold Pipeline.afterTail₀
  simp only [hostOps1, List.flatten_cons, List.flatten_nil, List.append_nil]
  after_results
  exact congrArg (fun v => shapeCast S_ v shapeCasts_S1x1_S_)
    (Pipeline.withArrays_arr spec0 (by decide) c (V0 m c) (fun w => (dats m 0 c).arrAt w cfg0.N) 2)

/-- The free components' block at row `j`, column `k` is the launched component `798 j + k`. -/
theorem rows_at (u : S199500.Idx → EReal) (j : Fin 250) (k : Fin 798) (d : Fin 199500) (h : d.val = 798 * j.val + k.val) :
    shapeCast S250x798 u shapeCasts_S199500_S250x798 (ValueIdx.ix2 j k) = u (ValueIdx.ix1 d) := by
  refine shapeCast_apply _ _ (ValueIdx.ix2 j k) (ValueIdx.ix1 d) ?_
  rw [Shape.rowMajor_val_one, Shape.rowMajor_val_two]
  show d.val = j.val * 798 + k.val
  omega

/-- What the kernel leaves in its result: the total over the launched time and free components. -/
theorem result_value (i : S_.Idx) : Pipeline.afterTail₀ cfgs (dats m) 0 (V0 m) [hostOps1] c main_v2 i
    = total (pull (m ((c : Thread nD τ).loc main_arg1) (ValueIdx.ix1 (0 : Fin 1)))) (m ((c : Thread nD τ).loc main_arg0)) := by
  rw [tail_result, result_array]
  unfold outsAt0
  rw [time_block, rows_block, stored]
  show k0_pay1 (F := Ideal) _ _ _ _ = _
  exact kernel_total _ _ (m ((c : Thread nD τ).loc main_arg0)) (fun j k d h => rows_at _ j k d h) _

/-- The kernel's run: its result is the total, its arguments are unchanged. -/
theorem run (ρ : Dev nD → PrngReg) :
    θ_run (defs (F := Ideal)) (onTc (τ := τ) (main (F := Ideal))) ⟨m, fun _ => 0, ρ⟩ (fun r => (∀ c : Dev nD,
      r.2.mem ((c.tc : Thread nD τ).loc main_v2) = fun _ => total
          (pull (m ((c.tc : Thread nD τ).loc main_arg1) (ValueIdx.ix1 (0 : Fin 1)))) (m ((c.tc : Thread nD τ).loc main_arg0)))
      ∧ ∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)) :=
  θ_run_and
    ((θ_run (defs (F := Ideal)) _ _).mono (fun _ h c =>
      ((h c).2 main_v2 (Pipeline.mem_restRefs_of main_v2 (by decide) (by decide))).trans (funext fun i => result_value m c i))
      (run_main m ρ))
    (Cert.KernelIdeal.Gen.unchanged m ρ)

end Cert.KernelRun

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_the_mesh
public import Idealize.ShloMosaic.Adequacy
public import Idealize.ShloMosaic.Init
public import Idealize.ShloMosaic.Lib.Quiescent
public import proofs.«01_k».proof.Proof.Mesh
public import proofs.«01_k».proof.Proof.KernelRun

@[expose] public section

noncomputable section

namespace Cert.Proof

open Idealize.ShloMosaic Idealize.ShloMosaic.TcCoe Idealize.ShloMosaic.StableHlo Idealize.SL.Sem

/-- The kernel as written runs, leaves its arguments unchanged and every counter at zero. -/
theorem frame_kernel : Cert.quiescent_Kernel := fun m ρ _ => Cert.Kernel.Gen.frame m ρ

/-- So does the kernel with the named constant. -/
theorem frame_ideal : Cert.quiescent_KernelIdeal := fun m ρ _ => Cert.KernelIdeal.Gen.frame m ρ

/-- So it does on the mesh. -/
theorem frame_ideal_mesh : Cert.quiescent_KernelIdeal_pre_the_mesh := fun m ρ _ => Cert.KernelIdeal.Gen.frame m ρ

/-- The reference declares no semaphore; its run leaves its arguments unchanged. -/
theorem frame_reference : Cert.quiescent_ReferenceIdeal := fun m ρ _ =>
  (θ_run (Cert.ReferenceIdeal.defs (F := Ideal)) _ _).mono
    (fun r h => ⟨fun c => (h c).2, Idealize.ShloMosaic.sem_eq_zero_of_no_sems (by decide) r.2⟩)
    (Cert.ReferenceIdeal.Value.run m ρ)

/-- So it does on the mesh. -/
theorem frame_reference_mesh : Cert.quiescent_ReferenceIdeal_pre_the_mesh := fun m ρ _ => frame_reference m ρ trivial

/-- The named constant rounds to the number the kernel writes. -/
theorem named : Cert.preserves_Kernel_KernelIdeal :=
  IdealRules.named_const.statement Cert.KernelIdeal.κ "cell_area" .f32 0x37A8DE3D#32 ((2 / 99351 : ℝ) : EReal) rfl

/-- On the mesh the kernel and the reference leave the same energy. -/
theorem same_energy : Cert.algebraic_KernelIdeal_ReferenceIdeal_pre_the_mesh := by
  intro m g m' g' H hargs
  refine ⟨fun c => fun _ => Cert.Sums.total
      (Cert.Field.pull (m ((c.tc : Thread Cert.KernelIdeal.nD Cert.KernelIdeal.τ).loc Cert.KernelIdeal.main_arg1) (ValueIdx.ix1 (0 : Fin 1))))
      (m ((c.tc : Thread Cert.KernelIdeal.nD Cert.KernelIdeal.τ).loc Cert.KernelIdeal.main_arg0)), ?_, ?_⟩
  · exact (θ_run (Cert.KernelIdeal.defs (F := Ideal)) _ _).mono (fun r h c => ⟨h.1 c, h.2 c⟩) (Cert.KernelRun.run m g)
  · refine (θ_run (Cert.ReferenceIdeal.defs (F := Ideal)) _ _).mono (fun r h c => ⟨?_, (h c).2⟩) (Cert.ReferenceIdeal.Value.run m' g')
    refine (h c).1.trans ((Cert.ReferenceIdeal.Read.val_main_v206_eq (launchContents m' c)).trans (funext fun i => ?_))
    obtain ⟨a0, a1, a2, a3, a4⟩ := hargs c
    rw [launchContents_devRef, launchContents_devRef, launchContents_devRef, launchContents_devRef, launchContents_devRef,
      a0, a1, a2, a3, a4]
    exact Cert.Sums.reference_total _ _ _ _ _ (Cert.Mesh.isMesh_of _ _ _ _ _ (H c)) i

theorem claim : Cert.Claim :=
  ⟨Cert.Kernel.Gen.facts, Cert.KernelIdeal.Gen.facts, Cert.ReferenceIdeal.Gen.facts, Cert.Pre_the_mesh.Gen.facts,
    frame_kernel, frame_ideal, frame_ideal_mesh, frame_reference, frame_reference_mesh, named, same_energy⟩

end Cert.Proof

end
